-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_scores [hPre_distinct_scores : Cert.Pre_distinct_scores.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_scores [hPre_distinct_scores : Cert.Pre_distinct_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_distinct_scores [hKernelIdeal : Cert.KernelIdeal.Facts] [hPre_distinct_scores : Cert.Pre_distinct_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_distinct_scores [hReferenceIdeal : Cert.ReferenceIdeal.Facts] [hPre_distinct_scores : Cert.Pre_distinct_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_distinct_scores [hKernelIdeal : Cert.KernelIdeal.Facts] [hReferenceIdeal : Cert.ReferenceIdeal.Facts] [hPre_distinct_scores : Cert.Pre_distinct_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_distinct_scores : Cert.Pre_distinct_scores.Facts),
    quiescent_Kernel (hKernel := hKernel)
    ∧ quiescent_KernelIdeal (hKernelIdeal := hKernelIdeal)
    ∧ quiescent_KernelIdeal_pre_distinct_scores (hKernelIdeal := hKernelIdeal) (hPre_distinct_scores := hPre_distinct_scores)
    ∧ quiescent_ReferenceIdeal (hReferenceIdeal := hReferenceIdeal)
    ∧ quiescent_ReferenceIdeal_pre_distinct_scores (hReferenceIdeal := hReferenceIdeal) (hPre_distinct_scores := hPre_distinct_scores)
    ∧ preserves_Kernel_KernelIdeal
    ∧ algebraic_KernelIdeal_ReferenceIdeal_pre_distinct_scores (hKernelIdeal := hKernelIdeal) (hReferenceIdeal := hReferenceIdeal) (hPre_distinct_scores := hPre_distinct_scores)
-- ==== Pre_distinct_scores.lean ====
abbrev S512x128x64 : Shape := ⟨3, ![512, 128, 64]⟩
abbrev S64x64 : Shape := ⟨2, ![64, 64]⟩
abbrev S_ : Shape := ⟨0, ![]⟩
abbrev S512x64x128 : Shape := ⟨3, ![512, 64, 128]⟩
abbrev S512x128x128 : Shape := ⟨3, ![512, 128, 128]⟩
abbrev S128x128 : Shape := ⟨2, ![128, 128]⟩
abbrev S1x128x128 : Shape := ⟨3, ![1, 128, 128]⟩
abbrev S512x128x128x1 : Shape := ⟨4, ![512, 128, 128, 1]⟩
abbrev S512x128x1x128 : Shape := ⟨4, ![512, 128, 1, 128]⟩
abbrev S512x128x128x128 : Shape := ⟨4, ![512, 128, 128, 128]⟩
abbrev S1x128x128x1 : Shape := ⟨4, ![1, 128, 128, 1]⟩
abbrev S1x128x1x128 : Shape := ⟨4, ![1, 128, 1, 128]⟩
abbrev S1x1x128x128 : Shape := ⟨4, ![1, 1, 128, 128]⟩

class Facts : Prop where
  transposes_S512x128x64_S512x64x128_0_2_1 : S512x128x64.Transposes [0, 2, 1] S512x64x128
  bcast_S_S512x128x128 : S_.BroadcastsInDim S512x128x128 (![] : Fin 0 → Fin S512x128x128.rank)
  bcast_S_S128x128 : S_.BroadcastsInDim S128x128 (![] : Fin 0 → Fin S128x128.rank)
  bcast_S128x128_S1x128x128_1_2 : S128x128.BroadcastsInDim S1x128x128 (![1, 2] : Fin 2 → Fin S1x128x128.rank)
  bcast_S1x128x128_S512x128x128_0_1_2 : S1x128x128.BroadcastsInDim S512x128x128 (![0, 1, 2] : Fin 3 → Fin S512x128x128.rank)
  bcast_S512x128x128_S512x128x128x1_0_1_2 : S512x128x128.BroadcastsInDim S512x128x128x1 (![0, 1, 2] : Fin 3 → Fin S512x128x128x1.rank)
  bcast_S512x128x128_S512x128x1x128_0_1_3 : S512x128x128.BroadcastsInDim S512x128x1x128 (![0, 1, 3] : Fin 3 → Fin S512x128x1x128.rank)
  bcast_S512x128x128x1_S512x128x128x128_0_1_2_3 : S512x128x128x1.BroadcastsInDim S512x128x128x128 (![0, 1, 2, 3] : Fin 4 → Fin S512x128x128x128.rank)
  bcast_S512x128x1x128_S512x128x128x128_0_1_2_3 : S512x128x1x128.BroadcastsInDim S512x128x128x128 (![0, 1, 2, 3] : Fin 4 → Fin S512x128x128x128.rank)
  bcast_S_S512x128x128x1 : S_.BroadcastsInDim S512x128x128x1 (![] : Fin 0 → Fin S512x128x128x1.rank)
  bcast_S1x128x128_S1x128x128x1_0_1_2 : S1x128x128.BroadcastsInDim S1x128x128x1 (![0, 1, 2] : Fin 3 → Fin S1x128x128x1.rank)
  bcast_S1x128x128x1_S512x128x128x128_0_1_2_3 : S1x128x128x1.BroadcastsInDim S512x128x128x128 (![0, 1, 2, 3] : Fin 4 → Fin S512x128x128x128.rank)
  bcast_S1x128x128_S1x128x1x128_0_1_3 : S1x128x128.BroadcastsInDim S1x128x1x128 (![0, 1, 3] : Fin 3 → Fin S1x128x1x128.rank)
  bcast_S1x128x1x128_S512x128x128x128_0_1_2_3 : S1x128x1x128.BroadcastsInDim S512x128x128x128 (![0, 1, 2, 3] : Fin 4 → Fin S512x128x128x128.rank)
  bcast_S128x128_S1x1x128x128_2_3 : S128x128.BroadcastsInDim S1x1x128x128 (![2, 3] : Fin 2 → Fin S1x1x128x128.rank)
  bcast_S1x1x128x128_S512x128x128x128_0_1_2_3 : S1x1x128x128.BroadcastsInDim S512x128x128x128 (![0, 1, 2, 3] : Fin 4 → Fin S512x128x128x128.rank)
  bcast_S_S512x128x128x128 : S_.BroadcastsInDim S512x128x128x128 (![] : Fin 0 → Fin S512x128x128x128.rank)
  dot_S512x128x64_S64x64_S512x128x64_2_0_01_1_n_n_wf : DotDims.WF S512x128x64 S64x64 S512x128x64 [2] [0] [0, 1] [1] [] []
  dot_S512x128x64_S512x64x128_S512x128x128_2_1_1_2_0_0_wf : DotDims.WF S512x128x64 S512x64x128 S512x128x128 [2] [1] [1] [2] [0] [0]

variable [Facts]

def dot_S512x128x64_S64x64_S512x128x64_2_0_01_1_n_n : DotDims S512x128x64 S64x64 S512x128x64 where
  lhsContracting := [2]
  rhsContracting := [0]
  lhsNonContracting := [0, 1]
  rhsNonContracting := [1]
  lhsBatch := []
  rhsBatch := []
  wf := dot_S512x128x64_S64x64_S512x128x64_2_0_01_1_n_n_wf
def dot_S512x128x64_S512x64x128_S512x128x128_2_1_1_2_0_0 : DotDims S512x128x64 S512x64x128 S512x128x128 where
  lhsContracting := [2]
  rhsContracting := [1]
  lhsNonContracting := [1]
  rhsNonContracting := [2]
  lhsBatch := [0]
  rhsBatch := [0]
  wf := dot_S512x128x64_S512x64x128_S512x128x128_2_1_1_2_0_0_wf
def fn_part2 {F : FTy → Type} [FloatOps F] (main_arg4 : FVec F S_ .f32) (main_v38 : IVec S512x128x128x128 1) (main_v41 : IVec S512x128x128x128 1) : IVec S512x128x128x128 1 :=
  let main_v42 : IVec S512x128x128x128 1 := andi main_v38 main_v41
  let main_v43 : IVec S512x128x128x128 1 := noti main_v42
  let main_cst_5 : FVec F S_ .f32 := constant S_ .f32 0x00000000#32
  let main_v44 : IVec S_ 1 := cmpf .une main_arg4 main_cst_5
  let main_v45 : IVec S512x128x128x128 1 := broadcastInDim S512x128x128x128 ![] bcast_S_S512x128x128x128 main_v44
  let main_v46 : IVec S512x128x128x128 1 := andi main_v43 main_v45
  main_v46

def fn_part1 {F : FTy → Type} [FloatOps F] (main_arg4 : FVec F S_ .f32) (main_v6 : IVec S128x128 32) (main_v7 : IVec S128x128 32) (main_v16 : FVec F S128x128 .f32) (main_v18 : FVec F S512x128x128 .f32) : IVec S512x128x128x128 1 :=
  let main_v19 : FVec F S1x128x128 .f32 := broadcastInDim S1x128x128 ![1, 2] bcast_S128x128_S1x128x128_1_2 main_v16
  let main_v20 : FVec F S512x128x128 .f32 := broadcastInDim S512x128x128 ![0, 1, 2] bcast_S1x128x128_S512x128x128_0_1_2 main_v19
  let main_v21 : FVec F S512x128x128 .f32 := mulf main_v18 main_v20
  let main_v22 : IVec S128x128 1 := cmpi .sle main_v7 main_v6
  let main_v23 : IVec S1x128x128 1 := broadcastInDim S1x128x128 ![1, 2] bcast_S128x128_S1x128x128_1_2 main_v22
  let main_v24 : FVec F S512x128x128x1 .f32 := broadcastInDim S512x128x128x1 ![0, 1, 2] bcast_S512x128x128_S512x128x128x1_0_1_2 main_v21
  let main_v25 : FVec F S512x128x1x128 .f32 := broadcastInDim S512x128x1x128 ![0, 1, 3] bcast_S512x128x128_S512x128x1x128_0_1_3 main_v21
  let main_v26 : FVec F S512x128x128x128 .f32 := broadcastInDim S512x128x128x128 ![0, 1, 2, 3] bcast_S512x128x128x1_S512x128x128x128_0_1_2_3 main_v24
  let main_v27 : FVec F S512x128x128x128 .f32 := broadcastInDim S512x128x128x128 ![0, 1, 2, 3] bcast_S512x128x1x128_S512x128x128x128_0_1_2_3 main_v25
  let main_v28 : IVec S512x128x128x128 1 := cmpf .oeq main_v26 main_v27
  let main_cst_4 : FVec F S_ .f32 := constant S_ .f32 0x00000000#32
  let main_v29 : FVec F S512x128x128x1 .f32 := broadcastInDim S512x128x128x1 ![] bcast_S_S512x128x128x1 main_cst_4
  let main_v30 : IVec S512x128x128x1 1 := cmpf .ogt main_v24 main_v29
  let main_v31 : IVec S512x128x128x128 1 := broadcastInDim S512x128x128x128 ![0, 1, 2, 3] bcast_S512x128x128x1_S512x128x128x128_0_1_2_3 main_v30
  let main_v32 : IVec S512x128x128x128 1 := andi main_v28 main_v31
  let main_v33 : IVec S1x128x128x1 1 := broadcastInDim S1x128x128x1 ![0, 1, 2] bcast_S1x128x128_S1x128x128x1_0_1_2 main_v23
  let main_v34 : IVec S512x128x128x128 1 := broadcastInDim S512x128x128x128 ![0, 1, 2, 3] bcast_S1x128x128x1_S512x128x128x128_0_1_2_3 main_v33
  let main_v35 : IVec S512x128x128x128 1 := andi main_v32 main_v34
  let main_v36 : IVec S1x128x1x128 1 := broadcastInDim S1x128x1x128 ![0, 1, 3] bcast_S1x128x128_S1x128x1x128_0_1_3 main_v23
  let main_v37 : IVec S512x128x128x128 1 := broadcastInDim S512x128x128x128 ![0, 1, 2, 3] bcast_S1x128x1x128_S512x128x128x128_0_1_2_3 main_v36
  let main_v38 : IVec S512x128x128x128 1 := andi main_v35 main_v37
  let main_v39 : IVec S128x128 1 := cmpi .ne main_v6 main_v7
  let main_v40 : IVec S1x1x128x128 1 := broadcastInDim S1x1x128x128 ![2, 3] bcast_S128x128_S1x1x128x128_2_3 main_v39
  let main_v41 : IVec S512x128x128x128 1 := broadcastInDim S512x128x128x128 ![0, 1, 2, 3] bcast_S1x1x128x128_S512x128x128x128_0_1_2_3 main_v40
  fn_part2 (F := F) main_arg4 main_v38 main_v41

def fn {F : FTy → Type} [FloatOps F] (main_arg0 : FVec F S512x128x64 .f32) (main_arg1 : FVec F S64x64 .f32) (main_arg2 : FVec F S64x64 .f32) (main_arg3 : FVec F S64x64 .f32) (main_arg4 : FVec F S_ .f32) : IVec S512x128x128x128 1 :=
  let main_v0 : FVec F S512x128x64 .f32 := (fun l r => Host.dotGeneral dot_S512x128x64_S64x64_S512x128x64_2_0_01_1_n_n none l r) main_arg0 main_arg1
  let main_v1 : FVec F S512x128x64 .f32 := (fun l r => Host.dotGeneral dot_S512x128x64_S64x64_S512x128x64_2_0_01_1_n_n none l r) main_arg0 main_arg2
  let main_v2 : FVec F S512x64x128 .f32 := (transpose S512x64x128 [0, 2, 1] · transposes_S512x128x64_S512x64x128_0_2_1) main_v0
  let main_v3 : FVec F S512x128x128 .f32 := (fun l r => Host.dotGeneral dot_S512x128x64_S512x64x128_S512x128x128_2_1_1_2_0_0 none l r) main_v1 main_v2
  let main_cst : FVec F S_ .f32 := constant S_ .f32 0x3E000000#32
  let main_v4 : FVec F S512x128x128 .f32 := broadcastInDim S512x128x128 ![] bcast_S_S512x128x128 main_cst
  let main_v5 : FVec F S512x128x128 .f32 := mulf main_v3 main_v4
  let main_v6 : IVec S128x128 32 := iotaInDim S128x128 32 0
  let main_v7 : IVec S128x128 32 := iotaInDim S128x128 32 1
  let main_v8 : IVec S128x128 32 := subi main_v7 main_v6
  let main_v9 : IVec S128x128 32 := absi main_v8
  let main_v10 : FVec F S128x128 .f32 := sitofp .f32 main_v9
  let main_cst_0 : FVec F S_ .f32 := constant S_ .f32 0x3DCCCCCD#32
  let main_v11 : FVec F S128x128 .f32 := broadcastInDim S128x128 ![] bcast_S_S128x128 main_cst_0
  let main_v12 : FVec F S128x128 .f32 := mulf main_v11 main_v10
  let main_cst_1 : FVec F S_ .f32 := constant S_ .f32 0x43000000#32
  let main_v13 : FVec F S128x128 .f32 := broadcastInDim S128x128 ![] bcast_S_S128x128 main_cst_1
  let main_v14 : FVec F S128x128 .f32 := Host.divf main_v12 main_v13
  let main_cst_2 : FVec F S_ .f32 := constant S_ .f32 0x3F800000#32
  let main_v15 : FVec F S128x128 .f32 := broadcastInDim S128x128 ![] bcast_S_S128x128 main_cst_2
  let main_v16 : FVec F S128x128 .f32 := subf main_v15 main_v14
  let main_cst_3 : FVec F S_ .f32 := constant S_ .f32 0x00000000#32
  let main_v17 : FVec F S512x128x128 .f32 := broadcastInDim S512x128x128 ![] bcast_S_S512x128x128 main_cst_3
  let main_v18 : FVec F S512x128x128 .f32 := maximumf main_v5 main_v17
  fn_part1 (F := F) main_arg4 main_v6 main_v7 main_v16 main_v18
-- ==== Kernel.lean ====
abbrev S512x128x64 : Shape := ⟨3, ![512, 128, 64]⟩
abbrev S64x64 : Shape := ⟨2, ![64, 64]⟩
abbrev S_ : Shape := ⟨0, ![]⟩
abbrev S1x1 : Shape := ⟨2, ![1, 1]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S64x128x64 : Shape := ⟨3, ![64, 128, 64]⟩
abbrev S8192x64 : Shape := ⟨2, ![8192, 64]⟩
abbrev S64x128x128 : Shape := ⟨3, ![64, 128, 128]⟩
abbrev S1x128x128 : Shape := ⟨3, ![1, 128, 128]⟩
abbrev S64x128 : Shape := ⟨2, ![64, 128]⟩
abbrev S64x1x128 : Shape := ⟨3, ![64, 1, 128]⟩

abbrev nBuf : Space → Nat
  | .hbm => 36
  | .vmem => 9
  | .smem => 0
  | _ => 0

abbrev bufTy : (tb : Table) → Fin (tcTables nBuf tb) → BufTy
  | .hbm, ⟨0, _⟩ => ⟨S512x128x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S_, .f32⟩
  | .hbm, ⟨5, _⟩ => ⟨S1x1, .f32⟩
  | .hbm, ⟨6, _⟩ => ⟨S128, .i32⟩
  | .hbm, ⟨7, _⟩ => ⟨S128x1, .i32⟩
  | .hbm, ⟨8, _⟩ => ⟨S1x128, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .f32⟩
  | .hbm, ⟨14, _⟩ => ⟨S_, .f32⟩
  | .hbm, ⟨15, _⟩ => ⟨S128x128, .f32⟩
  | .hbm, ⟨16, _⟩ => ⟨S128x128, .f32⟩
  | .hbm, ⟨17, _⟩ => ⟨S_, .f32⟩
  | .hbm, ⟨18, _⟩ => ⟨S128x128, .f32⟩
  | .hbm, ⟨19, _⟩ => ⟨S128x128, .f32⟩
  | .hbm, ⟨20, _⟩ => ⟨S_, .f32⟩
  | .hbm, ⟨21, _⟩ => ⟨S128x128, .f32⟩
  | .hbm, ⟨22, _⟩ => ⟨S128x128, .f32⟩
  | .hbm, ⟨23, _⟩ => ⟨S1x128, .i32⟩
  | .hbm, ⟨24, _⟩ => ⟨S128x1, .i32⟩
  | .hbm, ⟨25, _⟩ => ⟨S128x128, .i32⟩
  | .hbm, ⟨26, _⟩ => ⟨S128x128, .i32⟩
  | .hbm, ⟨27, _⟩ => ⟨S128x128, .i1⟩
  | .hbm, ⟨28, _⟩ => ⟨S_, .f32⟩
  | .hbm, ⟨29, _⟩ => ⟨S128x128, .f32⟩
  | .hbm, ⟨30, _⟩ => ⟨S128x128, .f32⟩
  | .hbm, ⟨31, _⟩ => ⟨S_, .f32⟩
  | .hbm, ⟨32, _⟩ => ⟨S128x128, .f32⟩
  | .hbm, ⟨33, _⟩ => ⟨S128x128, .f32⟩
  | .hbm, ⟨34, _⟩ => ⟨S128x128, .f32⟩
  | .hbm, ⟨35, _⟩ => ⟨S512x128x64, .f32⟩
  | .local _ .vmem, ⟨0, _⟩ => ⟨S64x128x64, .f32⟩
  | .local _ .vmem, ⟨1, _⟩ => ⟨S64x128x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S128x128, .f32⟩
  | .local _ .vmem, ⟨6, _⟩ => ⟨S1x1, .f32⟩
  | .local _ .vmem, ⟨7, _⟩ => ⟨S64x128x64, .f32⟩
  | .local _ .vmem, ⟨8, _⟩ => ⟨S64x128x64, .f32⟩
  | _, _ => ⟨S512x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_call0_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S512x128x64 : Shape := ⟨3, ![512, 128, 64]⟩
abbrev S64x64 : Shape := ⟨2, ![64, 64]⟩
abbrev S_ : Shape := ⟨0, ![]⟩
abbrev S512x64x128 : Shape := ⟨3, ![512, 64, 128]⟩
abbrev S512x128x128 : Shape := ⟨3, ![512, 128, 128]⟩
abbrev S128x128 : Shape := ⟨2, ![128, 128]⟩
abbrev S512x1x128x128 : Shape := ⟨4, ![512, 1, 128, 128]⟩
abbrev S128 : Shape := ⟨1, ![128]⟩
abbrev S1x128 : Shape := ⟨2, ![1, 128]⟩
abbrev S128x1 : Shape := ⟨2, ![128, 1]⟩
abbrev S1x1x128x128 : Shape := ⟨4, ![1, 1, 128, 128]⟩
abbrev S512x1x128 : Shape := ⟨3, ![512, 1, 128]⟩
abbrev S512x1x128x1 : Shape := ⟨4, ![512, 1, 128, 1]⟩
abbrev S512x1x128x8 : Shape := ⟨4, ![512, 1, 128, 8]⟩
abbrev S512 : Shape := ⟨1, ![512]⟩
abbrev S512x1x1x1 : Shape := ⟨4, ![512, 1, 1, 1]⟩
abbrev S1 : Shape := ⟨1, ![1]⟩
abbrev S1x1x1x1 : Shape := ⟨4, ![1, 1, 1, 1]⟩
abbrev S1x1x128x1 : Shape := ⟨4, ![1, 1, 128, 1]⟩
abbrev S512x1x128x8x1 : Shape := ⟨5, ![512, 1, 128, 8, 1]⟩
abbrev S512x1x128x8x4 : Shape := ⟨5, ![512, 1, 128, 8, 4]⟩

abbrev nBuf : Space → Nat
  | .hbm => 184
  | .vmem => 0
  | .smem => 0
  | _ => 0

abbrev hbmTy0_0 (i : Nat) : BufTy := match i % 128 with
  | 0 => ⟨S512x128x64, .f32⟩
  | 1 => ⟨S64x64, .f32⟩
  | 2 => ⟨S64x64, .f32⟩
  | 3 => ⟨S64x64, .f32⟩
  | 4 => ⟨S_, .f32⟩
  | 5 => ⟨S512x128x64, .f32⟩
  | 6 => ⟨S512x128x64, .f32⟩
  | 7 => ⟨S512x128x64, .f32⟩
  | 8 => ⟨S512x64x128, .f32⟩
  | 9 => ⟨S512x128x128, .f32⟩
  | 10 => ⟨S_, .f32⟩
  | 11 => ⟨S512x128x128, .f32⟩
  | 12 => ⟨S512x128x128, .f32⟩
  | 13 => ⟨S_, .f32⟩
  | 14 => ⟨S128x128, .f32⟩
  | 15 => ⟨S128x128, .i32⟩
  | 16 => ⟨S_, .i32⟩
  | 17 => ⟨S128x128, .i32⟩
  | 18 => ⟨S128x128, .i32⟩
  | 19 => ⟨S128x128, .i32⟩
  | 20 => ⟨S128x128, .i1⟩
  | 21 => ⟨S_, .f32⟩
  | 22 => ⟨S128x128, .f32⟩
  | 23 => ⟨S128x128, .f32⟩
  | 24 => ⟨S_, .f32⟩
  | 25 => ⟨S128x128, .f32⟩
  | 26 => ⟨S128x128, .i1⟩
  | 27 => ⟨S_, .f32⟩
  | 28 => ⟨S_, .f32⟩
  | 29 => ⟨S512x128x128, .i1⟩
  | 30 => ⟨S512x128x128, .f32⟩
  | 31 => ⟨S512x128x128, .f32⟩
  | 32 => ⟨S512x1x128x128, .f32⟩
  | 33 => ⟨S128, .i32⟩
  | 34 => ⟨S1x128, .i32⟩
  | 35 => ⟨S128, .i32⟩
  | 36 => ⟨S128x1, .i32⟩
  | 37 => ⟨S128x128, .i32⟩
  | 38 => ⟨S128x128, .i32⟩
  | 39 => ⟨S128x128, .i32⟩
  | 40 => ⟨S128x128, .i32⟩
  | 41 => ⟨S128x128, .f32⟩
  | 42 => ⟨S_, .f32⟩
  | 43 => ⟨S128x128, .f32⟩
  | 44 => ⟨S128x128, .f32⟩
  | 45 => ⟨S_, .f32⟩
  | 46 => ⟨S128x128, .f32⟩
  | 47 => ⟨S128x128, .f32⟩
  | 48 => ⟨S_, .f32⟩
  | 49 => ⟨S128x128, .f32⟩
  | 50 => ⟨S128x128, .f32⟩
  | 51 => ⟨S1x1x128x128, .f32⟩
  | 52 => ⟨S_, .f32⟩
  | 53 => ⟨S512x1x128x128, .f32⟩
  | 54 => ⟨S512x1x128x128, .f32⟩
  | 55 => ⟨S512x1x128x128, .f32⟩
  | 56 => ⟨S512x1x128x128, .f32⟩
  | 57 => ⟨S_, .i32⟩
  | 58 => ⟨S_, .f32⟩
  | 59 => ⟨S512x1x128, .f32⟩
  | 60 => ⟨S512x1x128x1, .f32⟩
  | 61 => ⟨S_, .f32⟩
  | 62 => ⟨S512x1x128x1, .f32⟩
  | 63 => ⟨S512x1x128x1, .f32⟩
  | 64 => ⟨S512x1x128x128, .f32⟩
  | 65 => ⟨S512x1x128x128, .f32⟩
  | 66 => ⟨S512x1x128x128, .f32⟩
  | 67 => ⟨S_, .f32⟩
  | 68 => ⟨S_, .f32⟩
  | 69 => ⟨S_, .f32⟩
  | 70 => ⟨S_, .f32⟩
  | 71 => ⟨S512x1x128, .f32⟩
  | 72 => ⟨S512x1x128x1, .f32⟩
  | 73 => ⟨S512x1x128x1, .f32⟩
  | 74 => ⟨S512x1x128x1, .f32⟩
  | 75 => ⟨S_, .f32⟩
  | 76 => ⟨S_, .i1⟩
  | 77 => ⟨S_, .f32⟩
  | 78 => ⟨S_, .f32⟩
  | 79 => ⟨S512x1x128x1, .f32⟩
  | 80 => ⟨S512x1x128x1, .f32⟩
  | 81 => ⟨S512x1x128x1, .f32⟩
  | 82 => ⟨S_, .f32⟩
  | 83 => ⟨S512x1x128, .f32⟩
  | 84 => ⟨S512x1x128x1, .f32⟩
  | 85 => ⟨S512x1x128x1, .f32⟩
  | 86 => ⟨S_, .f32⟩
  | 87 => ⟨S512x1x128x1, .f32⟩
  | 88 => ⟨S512x1x128x1, .f32⟩
  | 89 => ⟨S512x1x128x8, .f32⟩
  | 90 => ⟨S512x1x128x8, .i32⟩
  | 91 => ⟨S_, .f32⟩
  | 92 => ⟨S512x1x128x8, .f32⟩
  | 93 => ⟨S512x1x128x8, .f32⟩
  | 94 => ⟨S512x1x128x8, .f32⟩
  | 95 => ⟨S512x1x128x8, .f32⟩
  | 96 => ⟨S512x1x128x8, .f32⟩
  | 97 => ⟨S_, .i32⟩
  | 98 => ⟨S_, .i32⟩
  | 99 => ⟨S_, .f32⟩
  | 100 => ⟨S512x1x128x8, .f32⟩
  | 101 => ⟨S512x1x128x8, .f32⟩
  | 102 => ⟨S_, .f32⟩
  | 103 => ⟨S512x1x128x8, .f32⟩
  | 104 => ⟨S512x1x128x8, .f32⟩
  | 105 => ⟨S512x1x128x8, .i32⟩
  | 106 => ⟨S_, .i32⟩
  | 107 => ⟨S512x1x128x8, .i32⟩
  | 108 => ⟨S512x1x128x8, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S512x1x128x8, .i32⟩
  | 116 => ⟨S512x1x128x8, .i32⟩
  | 117 => ⟨S_, .i32⟩
  | 118 => ⟨S512x1x128x8, .i32⟩
  | 119 => ⟨S512x1x128x8, .i1⟩
  | 120 => ⟨S_, .i32⟩
  | 121 => ⟨S512x1x128x8, .i32⟩
  | 122 => ⟨S512x1x128x8, .i1⟩
  | 123 => ⟨S_, .i32⟩
  | 124 => ⟨S_, .i1⟩
  | 125 => ⟨S512x1x128x8, .i1⟩
  | 126 => ⟨S512x1x128x8, .i1⟩
  | 127 => ⟨S512x1x128x8, .i1⟩
  | _ => ⟨S512x128x64, .f32⟩

abbrev hbmTy0_1 (i : Nat) : BufTy := match i % 128 with
  | 0 => ⟨S512x1x128x8, .i32⟩
  | 1 => ⟨S512x1x128x8, .i32⟩
  | 2 => ⟨S512x1x128x8, .i32⟩
  | 3 => ⟨S_, .i32⟩
  | 4 => ⟨S512x1x128x8, .i32⟩
  | 5 => ⟨S512x1x128x8, .i32⟩
  | 6 => ⟨S512x1x128x8, .f32⟩
  | 7 => ⟨S512, .i32⟩
  | 8 => ⟨S512x1x1x1, .i32⟩
  | 9 => ⟨S1, .i32⟩
  | 10 => ⟨S1x1x1x1, .i32⟩
  | 11 => ⟨S128, .i32⟩
  | 12 => ⟨S1x1x128x1, .i32⟩
  | 13 => ⟨S_, .f32⟩
  | 14 => ⟨S512x1x128x128, .f32⟩
  | 15 => ⟨S_, .i32⟩
  | 16 => ⟨S512x1x1x1, .i32⟩
  | 17 => ⟨S512x1x1x1, .i1⟩
  | 18 => ⟨S_, .i32⟩
  | 19 => ⟨S512x1x1x1, .i32⟩
  | 20 => ⟨S512x1x1x1, .i32⟩
  | 21 => ⟨S512x1x1x1, .i32⟩
  | 22 => ⟨S_, .i32⟩
  | 23 => ⟨S1x1x1x1, .i32⟩
  | 24 => ⟨S1x1x1x1, .i1⟩
  | 25 => ⟨S_, .i32⟩
  | 26 => ⟨S1x1x1x1, .i32⟩
  | 27 => ⟨S1x1x1x1, .i32⟩
  | 28 => ⟨S1x1x1x1, .i32⟩
  | 29 => ⟨S_, .i32⟩
  | 30 => ⟨S1x1x128x1, .i32⟩
  | 31 => ⟨S1x1x128x1, .i1⟩
  | 32 => ⟨S_, .i32⟩
  | 33 => ⟨S1x1x128x1, .i32⟩
  | 34 => ⟨S1x1x128x1, .i32⟩
  | 35 => ⟨S1x1x128x1, .i32⟩
  | 36 => ⟨S_, .i32⟩
  | 37 => ⟨S512x1x128x8, .i32⟩
  | 38 => ⟨S512x1x128x8, .i1⟩
  | 39 => ⟨S_, .i32⟩
  | 40 => ⟨S512x1x128x8, .i32⟩
  | 41 => ⟨S512x1x128x8, .i32⟩
  | 42 => ⟨S512x1x128x8, .i32⟩
  | 43 => ⟨S512x1x128x8, .i32⟩
  | 44 => ⟨S512x1x128x8, .i32⟩
  | 45 => ⟨S512x1x128x8, .i32⟩
  | 46 => ⟨S512x1x128x8x1, .i32⟩
  | 47 => ⟨S512x1x128x8x1, .i32⟩
  | 48 => ⟨S512x1x128x8x1, .i32⟩
  | 49 => ⟨S512x1x128x8x1, .i32⟩
  | 50 => ⟨S512x1x128x8x4, .i32⟩
  | 51 => ⟨S512x1x128x128, .f32⟩
  | 52 => ⟨S512x1x128x128, .f32⟩
  | 53 => ⟨S512x1x128x128, .f32⟩
  | 54 => ⟨S512x128x128, .f32⟩
  | 55 => ⟨S512x128x64, .f32⟩
  | _ => ⟨S512x128x64, .f32⟩

abbrev hbmTy (i : Nat) : BufTy := match i / 128 with
  | 0 => hbmTy0_0 i
  | 1 => hbmTy0_1 i
  | _ => ⟨S512x128x64, .f32⟩

abbrev bufTy : (tb : Table) → Fin (tcTables nBuf tb) → BufTy
  | .hbm, ⟨i, _⟩ => hbmTy i
  | _, _ => ⟨S512x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_cst : Ref sig .tc := ⟨.hbm, 21, rfl⟩
abbrev main_call0_v5 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call2_cst : Ref sig .tc := ⟨.hbm, 52, rfl⟩
abbrev main_call2_v0 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c : Ref sig .tc := ⟨.hbm, 57, rfl⟩
abbrev main_call3_call0_cst : Ref sig .tc := ⟨.hbm, 58, rfl⟩
abbrev main_call3_call0_v0 : Ref sig .tc := ⟨.hbm, 59, rfl⟩
abbrev main_call3_call0_v1 : Ref sig .tc := ⟨.hbm, 60, rfl⟩
abbrev main_call3_call0_cst_0 : Ref sig .tc := ⟨.hbm, 61, rfl⟩
abbrev main_call3_call0_v2 : Ref sig .tc := ⟨.hbm, 62, rfl⟩
abbrev main_call3_call0_v3 : Ref sig .tc := ⟨.hbm, 63, rfl⟩
abbrev main_call3_call0_v4 : Ref sig .tc := ⟨.hbm, 64, rfl⟩
abbrev main_call3_call0_v5 : Ref sig .tc := ⟨.hbm, 65, rfl⟩
abbrev main_call3_call0_v6 : Ref sig .tc := ⟨.hbm, 66, rfl⟩
abbrev main_call3_call0_v7 : Ref sig .tc := ⟨.hbm, 67, rfl⟩
abbrev main_call3_call0_cst_1 : Ref sig .tc := ⟨.hbm, 68, rfl⟩
abbrev main_call3_call0_v8 : Ref sig .tc := ⟨.hbm, 69, rfl⟩
abbrev main_call3_call0_cst_2 : Ref sig .tc := ⟨.hbm, 70, rfl⟩
abbrev main_call3_call0_v9 : Ref sig .tc := ⟨.hbm, 71, rfl⟩
abbrev main_call3_call0_v10 : Ref sig .tc := ⟨.hbm, 72, rfl⟩
abbrev main_call3_call0_v11 : Ref sig .tc := ⟨.hbm, 73, rfl⟩
abbrev main_call3_call0_v12 : Ref sig .tc := ⟨.hbm, 74, rfl⟩
abbrev main_call3_call0_cst_3 : Ref sig .tc := ⟨.hbm, 75, rfl⟩
abbrev main_call3_call0_v13 : Ref sig .tc := ⟨.hbm, 76, rfl⟩
abbrev main_call3_call0_cst_4 : Ref sig .tc := ⟨.hbm, 77, rfl⟩
abbrev main_call3_call0_call0_v0 : Ref sig .tc := ⟨.hbm, 78, rfl⟩
abbrev main_call3_call0_call0_v1 : Ref sig .tc := ⟨.hbm, 79, rfl⟩
abbrev main_call3_v0 : Ref sig .tc := ⟨.hbm, 80, rfl⟩
abbrev main_v32 : Ref sig .tc := ⟨.hbm, 81, rfl⟩
abbrev main_cst_6 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_cst_7 : Ref sig .tc := ⟨.hbm, 86, rfl⟩
abbrev main_v36 : Ref sig .tc := ⟨.hbm, 87, rfl⟩
abbrev main_v37 : Ref sig .tc := ⟨.hbm, 88, rfl⟩
abbrev main_values : Ref sig .tc := ⟨.hbm, 89, rfl⟩
abbrev main_indices : Ref sig .tc := ⟨.hbm, 90, rfl⟩
abbrev main_cst_8 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_c_9 : Ref sig .tc := ⟨.hbm, 97, rfl⟩
abbrev main_c_10 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_v43 : Ref sig .tc := ⟨.hbm, 104, rfl⟩
abbrev main_v44 : Ref sig .tc := ⟨.hbm, 105, rfl⟩
abbrev main_c_11 : Ref sig .tc := ⟨.hbm, 106, rfl⟩
abbrev main_v45 : Ref sig .tc := ⟨.hbm, 107, rfl⟩
abbrev main_v46 : Ref sig .tc := ⟨.hbm, 108, rfl⟩
abbrev main_c_12 : Ref sig .tc := ⟨.hbm, 109, rfl⟩
abbrev main_call5_v0 : Ref sig .tc := ⟨.hbm, 110, rfl⟩
abbrev main_call5_c : Ref sig .tc := ⟨.hbm, 111, rfl⟩
abbrev main_call5_v1 : Ref sig .tc := ⟨.hbm, 112, rfl⟩
abbrev main_call5_c_0 : Ref sig .tc := ⟨.hbm, 113, rfl⟩
abbrev main_call5_v2 : Ref sig .tc := ⟨.hbm, 114, rfl⟩
abbrev main_call5_v3 : Ref sig .tc := ⟨.hbm, 115, rfl⟩
abbrev main_call5_v4 : Ref sig .tc := ⟨.hbm, 116, rfl⟩
abbrev main_call5_c_1 : Ref sig .tc := ⟨.hbm, 117, rfl⟩
abbrev main_call5_v5 : Ref sig .tc := ⟨.hbm, 118, rfl⟩
abbrev main_call5_v6 : Ref sig .tc := ⟨.hbm, 119, rfl⟩
abbrev main_call5_c_2 : Ref sig .tc := ⟨.hbm, 120, rfl⟩
abbrev main_call5_v7 : Ref sig .tc := ⟨.hbm, 121, rfl⟩
abbrev main_call5_v8 : Ref sig .tc := ⟨.hbm, 122, rfl⟩
abbrev main_call5_c_3 : Ref sig .tc := ⟨.hbm, 123, rfl⟩
abbrev main_call5_v9 : Ref sig .tc := ⟨.hbm, 124, rfl⟩
abbrev main_call5_v10 : Ref sig .tc := ⟨.hbm, 125, rfl⟩
abbrev main_call5_v11 : Ref sig .tc := ⟨.hbm, 126, rfl⟩
abbrev main_call5_v12 : Ref sig .tc := ⟨.hbm, 127, rfl⟩
abbrev main_call5_v13 : Ref sig .tc := ⟨.hbm, 128, rfl⟩
abbrev main_call5_v14 : Ref sig .tc := ⟨.hbm, 129, rfl⟩
abbrev main_v47 : Ref sig .tc := ⟨.hbm, 130, rfl⟩
abbrev main_c_13 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_cst_14 : Ref sig .tc := ⟨.hbm, 141, rfl⟩
abbrev main_v57 : Ref sig .tc := ⟨.hbm, 142, rfl⟩
abbrev main_c_15 : Ref sig .tc := ⟨.hbm, 143, rfl⟩
abbrev main_v58 : Ref sig .tc := ⟨.hbm, 144, rfl⟩
abbrev main_v59 : Ref sig .tc := ⟨.hbm, 145, rfl⟩
abbrev main_c_16 : Ref sig .tc := ⟨.hbm, 146, rfl⟩
abbrev main_v60 : Ref sig .tc := ⟨.hbm, 147, rfl⟩
abbrev main_v61 : Ref sig .tc := ⟨.hbm, 148, rfl⟩
abbrev main_v62 : Ref sig .tc := ⟨.hbm, 149, rfl⟩
abbrev main_c_17 : Ref sig .tc := ⟨.hbm, 150, rfl⟩
abbrev main_v63 : Ref sig .tc := ⟨.hbm, 151, rfl⟩
abbrev main_v64 : Ref sig .tc := ⟨.hbm, 152, rfl⟩
abbrev main_c_18 : Ref sig .tc := ⟨.hbm, 153, rfl⟩
abbrev main_v65 : Ref sig .tc := ⟨.hbm, 154, rfl⟩
abbrev main_v66 : Ref sig .tc := ⟨.hbm, 155, rfl⟩
abbrev main_v67 : Ref sig .tc := ⟨.hbm, 156, rfl⟩
abbrev main_c_19 : Ref sig .tc := ⟨.hbm, 157, rfl⟩
abbrev main_v68 : Ref sig .tc := ⟨.hbm, 158, rfl⟩
abbrev main_v69 : Ref sig .tc := ⟨.hbm, 159, rfl⟩
abbrev main_c_20 : Ref sig .tc := ⟨.hbm, 160, rfl⟩
abbrev main_v70 : Ref sig .tc := ⟨.hbm, 161, rfl⟩
abbrev main_v71 : Ref sig .tc := ⟨.hbm, 162, rfl⟩
abbrev main_v72 : Ref sig .tc := ⟨.hbm, 163, rfl⟩
abbrev main_c_21 : Ref sig .tc := ⟨.hbm, 164, rfl⟩
abbrev main_v73 : Ref sig .tc := ⟨.hbm, 165, rfl⟩
abbrev main_v74 : Ref sig .tc := ⟨.hbm, 166, rfl⟩
abbrev main_c_22 : Ref sig .tc := ⟨.hbm, 167, rfl⟩
abbrev main_v75 : Ref sig .tc := ⟨.hbm, 168, rfl⟩
abbrev main_v76 : Ref sig .tc := ⟨.hbm, 169, rfl⟩
abbrev main_v77 : Ref sig .tc := ⟨.hbm, 170, rfl⟩
abbrev main_v78 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_v82 : Ref sig .tc := ⟨.hbm, 175, rfl⟩
abbrev main_v83 : Ref sig .tc := ⟨.hbm, 176, rfl⟩
abbrev main_v84 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_v88 : Ref sig .tc := ⟨.hbm, 181, rfl⟩
abbrev main_v89 : Ref sig .tc := ⟨.hbm, 182, rfl⟩
abbrev main_v90 : Ref sig .tc := ⟨.hbm, 183, rfl⟩

abbrev nD : Nat := 1
abbrev τ : Topo := Topo.v7x

variable {F : FTy → Type} [FloatOps F]
-- ==== Proof.Row.lean ====
/-
  The arithmetic of ONE row of attention scores, with no program in sight: a row is a function
  `f : Fin 128 → EReal` of nonnegative scores whose positive entries are pairwise distinct.  What is
  needed of it: which entries survive seven rounds of "cut the maximum off" (exactly those with at
  most seven larger entries), which entries a descending arrangement lists first (the same ones), the
  standard deviation never exceeding the maximum, and the quantised weight being a small natural
  number on which the two ways of wrapping to a signed byte agree.
-/
module

public import Idealize.ShloMosaic.PureOps.Ideal.Laws
public import Idealize.ShloMosaic.Lib.IdealHost
public import Mathlib.Data.Finset.Card
public import Mathlib.Algebra.Order.BigOperators.Group.Finset
public import Mathlib.Data.EReal.Inv
public import Mathlib.Tactic.Linarith
public import Mathlib.Tactic.Ring
public import Mathlib.Tactic.NormNum
public import Mathlib.Tactic.FinCases
public import Mathlib.Tactic.IntervalCases

@[expose] public section

namespace HeadRow

open Idealize.ShloMosaic

noncomputable section

/-! ## Which entries survive -/

/-- The `n`-th cut of a row: the maximum first, then the maximum of what lies strictly below the
    previous cut, the cut-off entries counting as zero. -/
def cutoff (f : Fin 128 → EReal) : Nat → EReal
  | 0 => Finset.univ.fold max ⊥ f
  | n + 1 => Finset.univ.fold max ⊥ fun j => if f j < cutoff f n then f j else 0

/-- How many entries of the row are larger than entry `j`. -/
def above (f : Fin 128 → EReal) (j : Fin 128) : Finset (Fin 128) := Finset.univ.filter fun j' => f j < f j'

/-- A row as the scores give it: no negative entry, and no positive value twice. -/
structure Clean (f : Fin 128 → EReal) : Prop where
  nonneg : ∀ j, 0 ≤ f j
  distinct : ∀ i j, 0 < f i → f i = f j → i = j

/-- A fold of `max` from `⊥` is at most `c` when every entry is. -/
theorem fold_max_le (f : Fin 128 → EReal) (c : EReal) :
    Finset.univ.fold max ⊥ f ≤ c ↔ ∀ j, f j ≤ c := by
  rw [Finset.fold_max_le]
  exact ⟨fun h j => h.2 j (Finset.mem_univ j), fun h => ⟨bot_le, fun j _ => h j⟩⟩

/-- THE SELECTION: a positive entry reaches the `n`-th cut exactly when at most `n` entries are
    larger than it. -/
theorem cutoff_le_iff {f : Fin 128 → EReal} (hf : Clean f) (n : Nat) :
    ∀ j, 0 < f j → (cutoff f n ≤ f j ↔ (above f j).card ≤ n) := by
  induction n with
  | zero =>
    intro j _
    rw [cutoff, fold_max_le, Nat.le_zero, Finset.card_eq_zero, above, Finset.filter_eq_empty_iff]
    exact ⟨fun h j' _ => not_lt.mpr (h j'), fun h j' => not_lt.mp (h (Finset.mem_univ j'))⟩
  | succ n ih =>
    intro j hj
    have hstep : cutoff f (n + 1) ≤ f j ↔ ∀ j', f j' < cutoff f n → f j' ≤ f j := by
      rw [cutoff, fold_max_le]
      refine forall_congr' fun j' => ?_
      by_cases hlt : f j' < cutoff f n
      · simp [hlt]
      · simp [hlt, hj.le]
    rw [hstep]
    constructor
    · intro h
      by_contra hc
      have hne : (above f j).Nonempty := by
        rw [← Finset.card_pos]; omega
      obtain ⟨j0, hj0, hmin⟩ := (above f j).exists_min_image f hne
      have hlt0 : f j < f j0 := (Finset.mem_filter.mp hj0).2
      have hreach : cutoff f n ≤ f j0 := by
        by_contra hn
        exact absurd (h j0 (not_le.mp hn)) (not_le.mpr hlt0)
      have hcard := (ih j0 (hj.trans hlt0)).mp hreach
      have hsub : above f j ⊆ insert j0 (above f j0) := by
        intro j' hj'
        rcases (hmin j' hj').lt_or_eq with hl | he
        · exact Finset.mem_insert_of_mem (Finset.mem_filter.mpr ⟨Finset.mem_univ _, hl⟩)
        · exact Finset.mem_insert.mpr (.inl (hf.distinct j0 j' (hj.trans hlt0) he).symm)
      have := (Finset.card_le_card hsub).trans (Finset.card_insert_le _ _)
      omega
    · intro hcard j' hlt
      by_contra hn
      have hgt : f j < f j' := not_le.mp hn
      have hnc : ¬ (above f j').card ≤ n := fun hc => absurd ((ih j' (hj.trans hgt)).mpr hc) (not_le.mpr hlt)
      have hsub : insert j' (above f j') ⊆ above f j := by
        intro i hi
        rcases Finset.mem_insert.mp hi with rfl | hi
        · exact Finset.mem_filter.mpr ⟨Finset.mem_univ _, hgt⟩
        · exact Finset.mem_filter.mpr ⟨Finset.mem_univ _, hgt.trans (Finset.mem_filter.mp hi).2⟩
      have hnot : j' ∉ above f j' := by simp [above]
      have := Finset.card_le_card hsub
      rw [Finset.card_insert_of_notMem hnot] at this
      omega

/-- THE RANK: along an arrangement `π` of the row with no inversion, a positive entry stands at the
    place that counts the entries larger than it. -/
theorem card_above {f : Fin 128 → EReal} (hf : Clean f) (π : Fin 128 → Fin 128) (hinj : Function.Injective π)
    (hsort : ∀ r s : Fin 128, r < s → ¬ f (π r) < f (π s)) (r : Fin 128) (hr : 0 < f (π r)) :
    (above f (π r)).card = r.val := by
  have himg : above f (π r) = (Finset.Iio r).image π := by
    ext j'
    obtain ⟨s, rfl⟩ := (Finite.injective_iff_surjective.mp hinj) j'
    simp only [above, Finset.mem_filter, Finset.mem_univ, true_and, Finset.mem_image, Finset.mem_Iio]
    constructor
    · intro h
      refine ⟨s, ?_, rfl⟩
      rcases lt_trichotomy s r with hlt | rfl | hgt
      · exact hlt
      · exact absurd h (lt_irrefl _)
      · exact absurd h (hsort r s hgt)
    · rintro ⟨s', hs', he⟩
      obtain rfl := hinj he
      rcases lt_or_eq_of_le (not_lt.mp (hsort s' r hs')) with hlt | heq
      · exact hlt
      · exact absurd (hinj (hf.distinct _ _ hr heq)) (ne_of_gt hs')
  rw [himg, Finset.card_image_of_injective _ hinj, Fin.card_Iio]

/-- So a positive entry is among the first eight of the arrangement exactly when it reaches the cut
    that follows seven others. -/
theorem listed_iff {f : Fin 128 → EReal} (hf : Clean f) (π : Fin 128 → Fin 128) (hinj : Function.Injective π)
    (hsort : ∀ r s : Fin 128, r < s → ¬ f (π r) < f (π s)) (j : Fin 128) (hj : 0 < f j) :
    (∃ r : Fin 8, π ⟨r.val, r.isLt.trans (by decide)⟩ = j) ↔ cutoff f 7 ≤ f j := by
  rw [cutoff_le_iff hf 7 j hj]
  obtain ⟨r, rfl⟩ := (Finite.injective_iff_surjective.mp hinj) j
  rw [card_above hf π hinj hsort r hj]
  constructor
  · rintro ⟨s, hs⟩
    have := hinj hs
    have hv : s.val = r.val := congrArg Fin.val this
    have := s.isLt
    omega
  · intro h
    exact ⟨⟨r.val, by omega⟩, rfl⟩

/-! ## The standard deviation -/

/-- The largest entry of a row. -/
def top (f : Fin 128 → EReal) : EReal := Finset.univ.fold max ⊥ f

/-- Every entry is at most the largest. -/
theorem le_top' (f : Fin 128 → EReal) (j : Fin 128) : f j ≤ top f := (fold_max_le f _).mp le_rfl j

/-- The standard deviation of a row, the sum of squares divided by 127, in the extended reals. -/
def spread (f : Fin 128 → EReal) : EReal :=
  Ideal.sqrt (Ideal.div (∑ j, (f j - Ideal.div (∑ k, f k) 128) * (f j - Ideal.div (∑ k, f k) 128)) 127)

/-- The real inequality behind `spread_le`: entries between 0 and `M` have squares of deviations
    that sum to at most `127 M²`. -/
theorem sum_sq_le (r : Fin 128 → ℝ) (M : ℝ) (h0 : ∀ j, 0 ≤ r j) (hM : ∀ j, r j ≤ M) :
    ∑ j, (r j - (∑ k, r k) * (1 / 128)) * (r j - (∑ k, r k) * (1 / 128)) ≤ 127 * M ^ 2 := by
  set μ : ℝ := (∑ k, r k) * (1 / 128) with hμ
  have hsum : ∑ k, r k = 128 * μ := by rw [hμ]; ring
  have hterm : ∀ j ∈ Finset.univ, (r j - μ) * (r j - μ) ≤ (M - 2 * μ) * r j + μ ^ 2 := fun j _ => by
    nlinarith [mul_nonneg (h0 j) (sub_nonneg.mpr (hM j))]
  refine (Finset.sum_le_sum hterm).trans ?_
  rw [Finset.sum_add_distrib, ← Finset.mul_sum, hsum, Finset.sum_const, Finset.card_univ, Fintype.card_fin, nsmul_eq_mul]
  push_cast
  nlinarith [sq_nonneg (M - 2 * μ), sq_nonneg M]

/-- A sum of reals, taken in the extended reals, is the real sum. -/
theorem sum_coe (s : Fin 128 → ℝ) : (∑ j, (s j : EReal)) = ((∑ j, s j : ℝ) : EReal) := by
  have h : ∀ A : Finset (Fin 128), (∑ j ∈ A, (s j : EReal)) = ((∑ j ∈ A, s j : ℝ) : EReal) := fun A => by
    induction A using Finset.induction_on with
    | empty => simp
    | insert a A ha ih => rw [Finset.sum_insert ha, Finset.sum_insert ha, ih, EReal.coe_add]
  exact h Finset.univ

/-- THE SPREAD of a nonnegative row never exceeds its largest entry. -/
theorem spread_le (f : Fin 128 → EReal) (h0 : ∀ j, 0 ≤ f j) : spread f ≤ top f := by
  by_cases ht : top f = ⊤
  · rw [ht]; exact le_top
  have hne : ∀ j, f j ≠ ⊤ := fun j h => ht (top_le_iff.mp (h ▸ le_top' f j))
  have hnb : ∀ j, f j ≠ ⊥ := fun j h => by
    have := h0 j; rw [h] at this; exact absurd this (by simp)
  obtain ⟨r, rfl⟩ : ∃ r : Fin 128 → ℝ, f = fun j => (r j : EReal) :=
    ⟨fun j => (f j).toReal, funext fun j => (EReal.coe_toReal (hne j) (hnb j)).symm⟩
  have hmb : top (fun j => (r j : EReal)) ≠ ⊥ := fun h => by
    have := le_top' (fun j => (r j : EReal)) 0
    rw [h] at this; simp at this
  obtain ⟨M, hM⟩ : ∃ M : ℝ, top (fun j => (r j : EReal)) = M := ⟨_, (EReal.coe_toReal ht hmb).symm⟩
  have hr0 : ∀ j, 0 ≤ r j := fun j => EReal.coe_nonneg.mp (h0 j)
  have hrM : ∀ j, r j ≤ M := fun j => by
    have := le_top' (fun j => (r j : EReal)) j
    rw [hM] at this; exact_mod_cast this
  have hcoe : ∀ s : Fin 128 → ℝ, (∑ j, (s j : EReal)) = ((∑ j, s j : ℝ) : EReal) := sum_coe
  have h128 : (128 : EReal) = ((128 : ℝ) : EReal) := rfl
  have h127 : (127 : EReal) = ((127 : ℝ) : EReal) := rfl
  rw [hM, spread, hcoe, h128, Ideal.div_coe (by norm_num), ← EReal.coe_mul]
  simp only [← EReal.coe_sub, ← EReal.coe_mul]
  rw [hcoe, h127, Ideal.div_coe (by norm_num), ← EReal.coe_mul, Ideal.sqrt_coe, if_neg, EReal.coe_le_coe_iff]
  · have hb := sum_sq_le r M hr0 hrM
    have hMn : 0 ≤ M := (hr0 0).trans (hrM 0)
    rw [Real.sqrt_le_left hMn]
    linarith
  · refine not_lt.mpr (mul_nonneg (Finset.sum_nonneg fun j _ => mul_self_nonneg _) (by norm_num))

/-! ## The quantised weight -/

/-- The level of a score `x` in a row with maximum `m`: `x` as a share of `m + ε`, in 255 steps. -/
def level (ε x m : EReal) : EReal := Ideal.liftRound Int.floor (x * Ideal.div 255 (m + ε))

/-- A level read as a signed byte, by subtracting 256 above the middle. -/
def signedLevel (n : EReal) : EReal := n - (if ((255 / 2 : ℝ) : EReal) < n then 256 else 0)

/-- THE LEVEL of a score between 0 and the maximum is a natural number up to 255, and zero for the
    score zero; dividing the product instead of multiplying by the quotient gives the same. -/
theorem level_nat {ε : ℝ} (hε : 0 < ε) {x m : EReal} (hx : 0 ≤ x) (hxm : x ≤ m) :
    (∃ n : Nat, n ≤ 255 ∧ level ε x m = ((n : ℝ) : EReal) ∧ (x = 0 → n = 0)) ∧
      Ideal.liftRound Int.floor (Ideal.div (255 * x) (m + ε)) = level ε x m := by
  have h255 : (255 : EReal) = ((255 : ℝ) : EReal) := rfl
  have hdiv : Ideal.div (255 * x) (m + ε) = x * Ideal.div 255 (m + ε) := by
    have hne : m + (ε : EReal) ≠ 0 := by
      have : (0 : EReal) < m + ε := by
        have h1 : (0 : EReal) < ε := by exact_mod_cast hε
        exact h1.trans_le (le_add_of_nonneg_left (hx.trans hxm))
      exact this.ne'
    rw [Ideal.div, Ideal.div, if_neg hne, if_neg hne, mul_comm (255 : EReal) x, mul_assoc]
  refine ⟨?_, by rw [hdiv]; rfl⟩
  by_cases hm : m = ⊤
  · refine ⟨0, by norm_num, ?_, fun _ => rfl⟩
    rw [level, hm, EReal.top_add_coe, Ideal.div, if_neg (by simp)]
    have h0 : Ideal.liftRound Int.floor 0 = 0 := by
      rw [← EReal.coe_zero, Ideal.liftRound_coe, Int.floor_zero, Int.cast_zero]
    simpa using h0
  have hmb : m ≠ ⊥ := fun h => by rw [h] at hxm; simp [le_bot_iff.mp hxm] at hx
  have hxt : x ≠ ⊤ := fun h => hm (top_le_iff.mp (h ▸ hxm))
  have hxb : x ≠ ⊥ := fun h => by rw [h] at hx; simp at hx
  obtain ⟨M, rfl⟩ : ∃ M : ℝ, m = M := ⟨_, (EReal.coe_toReal hm hmb).symm⟩
  obtain ⟨r, rfl⟩ : ∃ r : ℝ, x = r := ⟨_, (EReal.coe_toReal hxt hxb).symm⟩
  have hr0 : 0 ≤ r := EReal.coe_nonneg.mp hx
  have hrM : r ≤ M := EReal.coe_le_coe_iff.mp hxm
  have hd : 0 < M + ε := by linarith
  set q : ℝ := r * (255 * (1 / (M + ε))) with hq
  have hq0 : 0 ≤ q := by positivity
  have hq255 : q ≤ 255 := by
    have h1 : r * (1 / (M + ε)) ≤ 1 := by rw [mul_one_div, div_le_one hd]; linarith
    rw [hq]; nlinarith
  have hval : level ε r M = ((⌊q⌋ : ℝ) : EReal) := by
    rw [level, ← EReal.coe_add, Ideal.div_coe hd.ne', h255, ← EReal.coe_mul, ← EReal.coe_mul, Ideal.liftRound_coe]
  refine ⟨⌊q⌋.toNat, ?_, ?_, fun h => ?_⟩
  · have h1 : ⌊q⌋ ≤ 255 := by exact_mod_cast (Int.floor_le q).trans hq255
    omega
  · have h0 : 0 ≤ ⌊q⌋ := Int.floor_nonneg.mpr hq0
    rw [hval]
    congr 1
    have : ((⌊q⌋.toNat : Int) : ℝ) = (⌊q⌋ : ℝ) := by rw [Int.toNat_of_nonneg h0]
    exact this.symm
  · have hr : r = 0 := by exact_mod_cast h
    rw [hq, hr]; simp

/-- The wrap-around to a signed byte as integer arithmetic writes it: shift by 128, the remainder by
    256 with the divisor's sign, shift back. -/
def wrapByte (n : BitVec 32) : BitVec 32 :=
  let d : BitVec 32 := Scalar.select (IntOp.cmpi .eq 256#32 0#32) 1#32 256#32
  let r : BitVec 32 := IntOp.remsi .host (IntOp.addi n 128#32) d
  IntOp.subi
    (Scalar.select (IntOp.andi (IntOp.cmpi .ne (IntOp.cmpi .slt r 0#32) (IntOp.cmpi .slt d 0#32)) (IntOp.cmpi .ne r 0#32))
      (IntOp.addi r d) r)
    128#32

/-- On the numbers up to 255 the wrap-around keeps the lower half and lowers the upper half by 256. -/
theorem wrapByte_toInt : ∀ n : Fin 256,
    (wrapByte (BitVec.ofInt 32 (n.val : Int))).toInt = (n.val : Int) - (if 127 < n.val then 256 else 0) := by
  decide +kernel

/-- THE WRAPPED LEVEL: clamping a level to 0 … 255, converting it to an integer, wrapping it to a
    signed byte and converting back is subtracting 256 above the middle. -/
theorem wrap_level {n : Nat} (hn : n ≤ 255) :
    (((wrapByte (Ideal.fptosi 32 (min 255 (max 0 ((n : ℝ) : EReal))))).toInt : ℝ) : EReal) = signedLevel ((n : ℝ) : EReal) := by
  have h255 : (255 : EReal) = ((255 : ℝ) : EReal) := rfl
  have h256 : (256 : EReal) = ((256 : ℝ) : EReal) := rfl
  have hclip : min (255 : EReal) (max 0 ((n : ℝ) : EReal)) = ((n : ℝ) : EReal) := by
    rw [max_eq_right (EReal.coe_nonneg.mpr (Nat.cast_nonneg n)), min_eq_right]
    rw [h255, EReal.coe_le_coe_iff]; exact_mod_cast hn
  have hint : Ideal.fptosi 32 ((n : ℝ) : EReal) = BitVec.ofInt 32 (n : Int) := by
    have : Ideal.toIntClamped (-(2 ^ (32 - 1) : Nat)) ((2 ^ (32 - 1) : Nat) - 1) ((n : ℝ) : EReal) = (n : Int) := by
      show max _ (min _ (if (0 : ℝ) ≤ (n : ℝ) then ⌊(n : ℝ)⌋ else ⌈(n : ℝ)⌉)) = _
      rw [if_pos (Nat.cast_nonneg n), Int.floor_natCast]
      omega
    rw [Ideal.fptosi, this]
  rw [hclip, hint, wrapByte_toInt ⟨n, by omega⟩, signedLevel]
  have hiff : ((255 / 2 : ℝ) : EReal) < ((n : ℝ) : EReal) ↔ 127 < n := by
    rw [EReal.coe_lt_coe_iff]
    constructor
    · intro h
      by_contra hc
      have : (n : ℝ) ≤ 127 := by exact_mod_cast not_lt.mp hc
      linarith
    · intro h
      have : (128 : ℝ) ≤ (n : ℝ) := by exact_mod_cast h
      linarith
  by_cases h : 127 < n
  · rw [if_pos (hiff.mpr h), if_pos h, h256, ← EReal.coe_sub]; push_cast; rfl
  · rw [if_neg (fun hc => h (hiff.mp hc)), if_neg h]; simp

end

end HeadRow
-- ==== Proof.Literals.lean ====
/-
  The float literals of the two programs, as extended reals.
-/
module

public import Idealize.ShloMosaic.PureOps.Ideal.Laws
public import Mathlib.Tactic.NormNum

@[expose] public section

namespace HeadLiterals

open Idealize.ShloMosaic

/-- The word of minus infinity. -/
theorem lit_negInf : Ideal.ofBits .f32 0xFF800000#32 = ⊥ := by simp [Ideal.ofBits, Ideal.ieee]

/-- The word of 255. -/
theorem lit_255 : Ideal.ofBits .f32 0x437F0000#32 = ((255 : ℝ) : EReal) := by
  simp [Ideal.ofBits, Ideal.ieee]
  refine (EReal.coe_mul _ _).symm.trans (congrArg Real.toEReal ?_)
  norm_num

/-- The word of 256. -/
theorem lit_256 : Ideal.ofBits .f32 0x43800000#32 = ((256 : ℝ) : EReal) := by
  simp [Ideal.ofBits, Ideal.ieee]
  refine (EReal.coe_mul _ _).symm.trans (congrArg Real.toEReal ?_)
  norm_num

/-- The word of 128. -/
theorem lit_128 : Ideal.ofBits .f32 0x43000000#32 = ((128 : ℝ) : EReal) := by
  simp [Ideal.ofBits, Ideal.ieee]
  refine (EReal.coe_mul _ _).symm.trans (congrArg Real.toEReal ?_)
  norm_num

/-- The word of 127.5. -/
theorem lit_middle : Ideal.ofBits .f32 0x42FF0000#32 = ((255 / 2 : ℝ) : EReal) := by
  simp [Ideal.ofBits, Ideal.ieee]
  refine (EReal.coe_mul _ _).symm.trans (congrArg Real.toEReal ?_)
  norm_num

/-- The word of 1/8. -/
theorem lit_eighth : Ideal.ofBits .f32 0x3E000000#32 = ((1 / 8 : ℝ) : EReal) := by
  simp [Ideal.ofBits, Ideal.ieee]
  refine (EReal.coe_mul _ _).symm.trans (congrArg Real.toEReal ?_)
  norm_num

/-- The word of 1. -/
theorem lit_one : Ideal.ofBits .f32 0x3F800000#32 = 1 := by
  simp [Ideal.ofBits, Ideal.ieee]
  refine ((EReal.coe_mul _ _).symm.trans (congrArg Real.toEReal ?_)).trans EReal.coe_one
  norm_num

/-- The small number the row's maximum is shifted by before dividing, the literal `1e-6`. -/
theorem lit_eps : ∃ ε : ℝ, 0 < ε ∧ Ideal.ofBits .f32 0x358637BD#32 = (ε : EReal) := by
  refine ⟨8796093 * (2 : ℝ) ^ (-43 : Int), by positivity, ?_⟩
  simp [Ideal.ofBits, Ideal.ieee]

/-- The decay's rate, the literal `0.1`: between 0 and 1. -/
theorem lit_alpha : ∃ α : ℝ, 0 < α ∧ α < 1 ∧ Ideal.ofBits .f32 0x3DCCCCCD#32 = (α : EReal) := by
  refine ⟨13421773 * (2 : ℝ) ^ (-27 : Int), by positivity, by norm_num, ?_⟩
  simp [Ideal.ofBits, Ideal.ieee]

end HeadLiterals
-- ==== Proof.RefRow.lean ====
/-
  The reference's row of decayed scores, its spread and its maximum, read at a position.
-/
module

public import proofs.«01_k».proof.Proof.Gen.ReferenceIdeal.Read
public import proofs.«01_k».proof.Proof.Row
public import proofs.«01_k».proof.Proof.Literals
public import Idealize.ShloMosaic.Lib.Pointwise
public import Idealize.ShloMosaic.Lib.KernelVsHost

@[expose] public section

set_option maxRecDepth 16384

noncomputable section

namespace HeadReference

open Idealize.ShloMosaic
open Cert.ReferenceIdeal Cert.ReferenceIdeal.Gen Cert.ReferenceIdeal.Read

variable (x : (⟨S512x128x64, .f32⟩ : BufTy).Contents (Elt Ideal))
  (wk wq wv : (⟨S64x64, .f32⟩ : BufTy).Contents (Elt Ideal))

/-- A query-key score: the dot product of the two projected positions. -/
theorem score_apply (b : Fin 512) (i j : Fin 128) :
    (val_main_v4 x wk wq : Vec Ideal S512x128x128 .f32) (ix3 b i j)
      = ∑ h : Fin 64, (∑ c : Fin 64, x (ix3 b i c) * wq (ix2 c h)) * ∑ c : Fin 64, x (ix3 b j c) * wk (ix2 c h) := by
  pointwise [val_main_v4, val_main_v3, val_main_v1, val_main_v0]

/-- The decay factor of a query position and a key position. -/
def fade (i j : Fin 128) : EReal :=
  1 - Ideal.div (Ideal.ofBits .f32 0x3DCCCCCD#32
      * FloatOps.sitofp (F := Ideal) .f32 (IntOp.absi (IntOp.subi (BitVec.ofNat 32 j.val) (BitVec.ofNat 32 i.val))))
    (Ideal.ofBits .f32 0x43000000#32)

/-- The decay table read at a position. -/
theorem decay_apply (b : Fin 512) (i j : Fin 128) :
    (val_main_v30 (F := Ideal) : Vec Ideal S512x1x128x128 .f32) (ix4 b 0 i j) = fade i j := by
  pointwise [val_main_v30, val_main_v28, val_main_v27, val_main_v26, val_main_v25, val_main_v24, val_main_v23, val_main_v22, val_main_v21, val_main_v20, val_main_v19, val_main_v18, val_main_v17, val_main_v16, val_main_v15, val_main_v14, val_main_v13, val_main_cst_3, val_main_cst_4, val_main_cst_5]
  rfl

/-- The masked, scaled score clipped below at zero. -/
def clipped (s : EReal) (i j : Fin 128) : EReal :=
  max (if (Scalar.select (IntOp.cmpi CmpIPredicate.sge (IntOp.addi (BitVec.ofNat 32 i.val) 0#32) (BitVec.ofNat 32 j.val)) (1 : EReal) 0) = 0
    then ⊥ else s * Ideal.ofBits .f32 0x3E000000#32) 0

/-- The clipped scores read at a position. -/
theorem relu_apply (b : Fin 512) (i j : Fin 128) :
    (val_main_v29 x wk wq : Vec Ideal S512x1x128x128 .f32) (ix4 b 0 i j)
      = clipped ((val_main_v4 x wk wq : Vec Ideal S512x128x128 .f32) (ix3 b i j)) i j := by
  unfold val_main_v29 val_main_v12 val_main_v11 val_main_v6
  generalize val_main_v4 x wk wq = s
  pointwise [val_main_call2_v0, val_main_call2_cst, val_main_call1_v1, val_main_call1_v2, val_main_call1_v0, val_main_v10, val_main_v9, val_main_v8, val_main_v7, val_main_v5, val_main_call0_v4, val_main_call0_v5, val_main_call0_v1, val_main_call0_v2, val_main_call0_v3, val_main_call0_v0, val_main_call0_c, val_main_call0_cst, val_main_cst, val_main_cst_0, val_main_cst_1, val_main_cst_2]
  have e : (id (constant (F := Ideal) S_ FTy.f32 4286578688#32) ix0 : EReal) = ⊥ := HeadLiterals.lit_negInf
  unfold clipped
  rw [← e]

/-- The row of decayed scores of one query position. -/
def row (b : Fin 512) (i : Fin 128) (j : Fin 128) : EReal :=
  clipped (∑ h : Fin 64, (∑ c : Fin 64, x (ix3 b i c) * wq (ix2 c h)) * ∑ c : Fin 64, x (ix3 b j c) * wk (ix2 c h)) i j * fade i j

/-- The decayed scores read at a position. -/
theorem row_apply (b : Fin 512) (i j : Fin 128) :
    (val_main_v31 x wk wq : Vec Ideal S512x1x128x128 .f32) (ix4 b 0 i j) = row x wk wq b i j := by
  rw [val_main_v31]
  show (val_main_v29 x wk wq : Vec Ideal S512x1x128x128 .f32) (ix4 b 0 i j) * (val_main_v30 (F := Ideal) : Vec Ideal S512x1x128x128 .f32) (ix4 b 0 i j) = _
  rw [relu_apply, decay_apply, score_apply]
  rfl

/-- The spread of a row, read at a query position. -/
theorem spread_apply (b : Fin 512) (i : Fin 128) :
    (val_main_v32 x wk wq : Vec Ideal S512x1x128x1 .f32) (ix4 b 0 i 0)
      = HeadRow.spread (fun j => (val_main_v31 x wk wq : Vec Ideal S512x1x128x128 .f32) (ix4 b 0 i j)) := by
  pointwise [val_main_v32, val_main_call3_v0, val_main_call3_call0_call0_v1, val_main_call3_call0_call0_v0, val_main_call3_call0_cst_4, val_main_call3_call0_v13, val_main_call3_call0_cst_3, val_main_call3_call0_v12, val_main_call3_call0_v11, val_main_call3_call0_v10, val_main_call3_call0_v9, val_main_call3_call0_cst_2, val_main_call3_call0_v8, val_main_call3_call0_cst_1, val_main_call3_call0_v7, val_main_call3_call0_v6, val_main_call3_call0_v5, val_main_call3_call0_v4, val_main_call3_call0_v3, val_main_call3_call0_v2, val_main_call3_call0_cst_0, val_main_call3_call0_v1, val_main_call3_call0_v0, val_main_call3_call0_cst, val_main_c]
  have one : FloatOps.sitofp (F := Ideal) FTy.f32 (1#32) = ((1 : ℝ) : EReal) := by
    show (((1#32 : BitVec 32).toInt : ℝ) : EReal) = _
    norm_num
  have h127 : Ideal.ofBits FTy.f32 1124073472#32 - FloatOps.sitofp (F := Ideal) FTy.f32 (1#32) = (127 : EReal) := by
    rw [one, HeadLiterals.lit_128, ← EReal.coe_sub]
    norm_num
    rfl
  rw [h127, if_pos (by norm_num), HeadLiterals.lit_128]
  rfl

/-- The largest entry of a row, read at a query position. -/
theorem top_apply (b : Fin 512) (i : Fin 128) :
    (val_main_v34 x wk wq : Vec Ideal S512x1x128x1 .f32) (ix4 b 0 i 0)
      = HeadRow.top (fun j => (val_main_v31 x wk wq : Vec Ideal S512x1x128x128 .f32) (ix4 b 0 i j)) := by
  unfold val_main_v34 val_main_v33
  rw [val_main_cst_6, hostReduce_maximumf_eq_multiReduction (h' := by decide) (hφ := by decide) (hacc := by rfl)]
  pointwise []
  rw [HeadLiterals.lit_negInf]
  rfl

end HeadReference
-- ==== Proof.RefCode.lean ====
/-
  The reference's stored weight of a selected score: scaled by the row, rounded down, clipped to a byte and wrapped.
-/
module

public import proofs.«01_k».proof.Proof.RefRow
public import Idealize.ShloMosaic.Lib.Pointwise
public import Idealize.ShloMosaic.Lib.KernelVsHost

@[expose] public section

set_option maxRecDepth 16384

noncomputable section

namespace HeadReference

open Idealize.ShloMosaic
open Cert.ReferenceIdeal Cert.ReferenceIdeal.Gen Cert.ReferenceIdeal.Read

variable (x : (⟨S512x128x64, .f32⟩ : BufTy).Contents (Elt Ideal))
  (wk wq wv : (⟨S64x64, .f32⟩ : BufTy).Contents (Elt Ideal))

/-- One stored weight, from a score `v` and the row's scale `s`: scale, round down, clip to a byte, wrap. -/
def code (v s : EReal) : EReal :=
  (((HeadRow.wrapByte (Ideal.fptosi 32 (min 255 (max 0 (Ideal.liftRound Int.floor (Ideal.div (255 * v) s)))))).toInt : ℝ) : EReal)

/-- The integer zero converted to a float. -/
theorem word_zero : FloatOps.sitofp (F := Ideal) FTy.f32 (0#32) = (0 : EReal) := by
  show (((0#32 : BitVec 32).toInt : ℝ) : EReal) = _
  norm_num

/-- The integer 255 converted to a float. -/
theorem word_255 : FloatOps.sitofp (F := Ideal) FTy.f32 (255#32) = ((255 : ℝ) : EReal) := by
  show (((255#32 : BitVec 32).toInt : ℝ) : EReal) = _
  rw [show (255#32 : BitVec 32).toInt = 255 from by decide]
  norm_num

/-- The scale a row is divided by: the larger of its maximum and its spread, plus the small literal. -/
def scale (m s : EReal) : EReal := max m s + Ideal.ofBits .f32 0x358637BD#32

/-- The scale, read at a selected position. -/
theorem scale_apply (b : Fin 512) (i : Fin 128) (r : Fin 8) :
    (val_main_v40 x wk wq : Vec Ideal S512x1x128x8 .f32) (ix4 b 0 i r)
      = scale ((val_main_v34 x wk wq : Vec Ideal S512x1x128x1 .f32) (ix4 b 0 i 0)) ((val_main_v32 x wk wq : Vec Ideal S512x1x128x1 .f32) (ix4 b 0 i 0)) := by
  have e : idx_main_v40 (ix4 b 0 i r) = ix4 b 0 i 0 := by
    funext a
    match a with
    | ⟨0, _⟩ => rfl
    | ⟨1, _⟩ => rfl
    | ⟨2, _⟩ => rfl
    | ⟨3, _⟩ => rfl
  have l : ∀ k, val_main_cst_7 (F := Ideal) k = Ideal.ofBits .f32 0x358637BD#32 := fun _ => rfl
  rw [val_main_v40_apply, val_main_v37_apply, val_main_v36_apply, val_main_v35_apply, l, e, scale]
  generalize (val_main_v34 x wk wq : Vec Ideal S512x1x128x1 .f32) (ix4 b 0 i 0) = m
  generalize (val_main_v32 x wk wq : Vec Ideal S512x1x128x1 .f32) (ix4 b 0 i 0) = s
  generalize Ideal.ofBits .f32 0x358637BD#32 = ε
  rfl

/-- The rounded level of a score `v` on the scale `s`. -/
def rounded (v s : EReal) : EReal := Ideal.liftRound Int.floor (Ideal.div (255 * v) s)

/-- The rounded level, read at a selected position. -/
theorem round_apply (b : Fin 512) (i : Fin 128) (r : Fin 8) :
    (val_main_v42 x wk wq : Vec Ideal S512x1x128x8 .f32) (ix4 b 0 i r)
      = rounded ((val_main_values x wk wq : Vec Ideal S512x1x128x8 .f32) (ix4 b 0 i r))
        ((val_main_v40 x wk wq : Vec Ideal S512x1x128x8 .f32) (ix4 b 0 i r)) := by
  have l : ∀ k, val_main_cst_8 (F := Ideal) k = ((255 : ℝ) : EReal) := fun _ => HeadLiterals.lit_255
  have n : (255 : EReal) = ((255 : ℝ) : EReal) := rfl
  rw [val_main_v42_apply, val_main_v41_apply, val_main_v39_apply, val_main_v38_apply, l, rounded, n]
  generalize (val_main_values x wk wq : Vec Ideal S512x1x128x8 .f32) (ix4 b 0 i r) = v
  generalize (val_main_v40 x wk wq : Vec Ideal S512x1x128x8 .f32) (ix4 b 0 i r) = s
  generalize ((255 : ℝ) : EReal) = t
  rfl

/-- A number clipped to 0 … 255. -/
def byteClip (v : EReal) : EReal := min 255 (max 0 v)

/-- The clipped level, read at a selected position. -/
theorem clip_apply (b : Fin 512) (i : Fin 128) (r : Fin 8) :
    (val_main_v43 x wk wq : Vec Ideal S512x1x128x8 .f32) (ix4 b 0 i r)
      = byteClip ((val_main_v42 x wk wq : Vec Ideal S512x1x128x8 .f32) (ix4 b 0 i r)) := by
  have l : ∀ k, val_main_call4_v0 (F := Ideal) k = (0 : EReal) := fun _ => word_zero
  have l' : ∀ k, val_main_call4_v3 (F := Ideal) k = ((255 : ℝ) : EReal) := fun _ => word_255
  have n : (255 : EReal) = ((255 : ℝ) : EReal) := rfl
  rw [val_main_v43_apply, val_main_call4_v4_apply, val_main_call4_v2_apply, val_main_call4_v1_apply, l, l', byteClip, n]
  generalize (val_main_v42 x wk wq : Vec Ideal S512x1x128x8 .f32) (ix4 b 0 i r) = v
  generalize ((255 : ℝ) : EReal) = t
  rfl

/-- The stored weights are the wrapped levels. -/
theorem wrap_apply (b : Fin 512) (i : Fin 128) (r : Fin 8) :
    (val_main_v50 x wk wq : Vec Ideal S512x1x128x8 .f32) (ix4 b 0 i r)
      = (((HeadRow.wrapByte (Ideal.fptosi 32 ((val_main_v43 x wk wq : Vec Ideal S512x1x128x8 .f32) (ix4 b 0 i r)))).toInt : ℝ) : EReal) := by
  unfold val_main_v50 val_main_v49 val_main_v47 val_main_call5_v14 val_main_call5_v12 val_main_call5_v11 val_main_call5_v8 val_main_call5_v6 val_main_call5_v4 val_main_v46 val_main_v44
  generalize val_main_v43 x wk wq = m
  have e : ∀ u : FVec Ideal S512x1x128x8 .f32, fptosi (F := Ideal) 32 u (ix4 b 0 i r) = Ideal.fptosi 32 (u (ix4 b 0 i r)) := fun _ => rfl
  rw [← e m]
  generalize fptosi (F := Ideal) 32 m = n
  pointwise [val_main_v48, val_main_c_13, val_main_call5_v13, val_main_call5_v10, val_main_call5_v9, val_main_call5_c_3, val_main_call5_v7, val_main_call5_c_2, val_main_call5_v5, val_main_call5_c_1, val_main_call5_v3, val_main_call5_v2, val_main_call5_c_0, val_main_call5_v1, val_main_call5_c, val_main_call5_v0, val_main_c_12, val_main_v45, val_main_c_11]
  have h : (id (constantI S_ 32 256#32) ix0 : BitVec 32) = 256#32 := rfl
  rw [h]
  generalize n (ix4 b 0 i r) = k
  unfold HeadRow.wrapByte
  rfl

/-- The stored weights of the selected positions. -/
theorem code_apply (b : Fin 512) (i : Fin 128) (r : Fin 8) :
    (val_main_v50 x wk wq : Vec Ideal S512x1x128x8 .f32) (ix4 b 0 i r)
      = code ((val_main_values x wk wq : Vec Ideal S512x1x128x8 .f32) (ix4 b 0 i r))
        (scale ((val_main_v34 x wk wq : Vec Ideal S512x1x128x1 .f32) (ix4 b 0 i 0)) ((val_main_v32 x wk wq : Vec Ideal S512x1x128x1 .f32) (ix4 b 0 i 0))) := by
  rw [wrap_apply, clip_apply, round_apply, scale_apply, code, byteClip, rounded]

end HeadReference
-- ==== Proof.RefPick.lean ====
/-
  The reference's selection: the first eight positions of a row sorted in descending order.
-/
module

public import proofs.«01_k».proof.Proof.RefCode
public import Idealize.ShloMosaic.Lib.SortFacts
public import Idealize.ShloMosaic.Lib.Routing.OpsSet

@[expose] public section

set_option maxRecDepth 16384

noncomputable section

namespace HeadReference

open Idealize.ShloMosaic
open Cert.ReferenceIdeal Cert.ReferenceIdeal.Gen Cert.ReferenceIdeal.Read

variable (x : (⟨S512x128x64, .f32⟩ : BufTy).Contents (Elt Ideal))
  (wk wq wv : (⟨S64x64, .f32⟩ : BufTy).Contents (Elt Ideal))

/-- The positions of a row in descending order of its entries. -/
def order (f : Fin 128 → EReal) (k : Fin 128) : Fin 128 :=
  sortedFrom (fun i j => Ideal.cmp .ogt (f i) (f j) == 1#1) k

/-- No position occurs twice in the order. -/
theorem order_injective (f : Fin 128 → EReal) : Function.Injective (order f) := sortedFrom_injective _

/-- A comparison word is one exactly when the comparison holds. -/
theorem greater_iff (a b : EReal) : (Ideal.cmp .ogt a b == 1#1) = decide (b < a) := by
  show (BitVec.ofBool (decide (b < a)) == 1#1) = _
  by_cases h : b < a <;> simp [h]

/-- A sort by "greater" never puts a smaller entry before a larger one. -/
theorem sorted_general {n : Nat} (f : Fin n → EReal) (r s : Fin n) (h : r < s) :
    ¬ f (sortedFrom (fun i j => Ideal.cmp .ogt (f i) (f j) == 1#1) r) < f (sortedFrom (fun i j => Ideal.cmp .ogt (f i) (f j) == 1#1) s) := by
  have e : (fun i j => Ideal.cmp .ogt (f i) (f j) == 1#1) = fun i j => decide (f j < f i) := by
    funext i j
    exact greater_iff _ _
  rw [e]
  have := sortedFrom_noInversion (fun i j => decide (f j < f i)) (fun i j => decide (f j < f i))
    (fun a b hab => decide_eq_false (not_lt.mpr (le_of_lt (of_decide_eq_true hab))))
    (fun a b hab => hab)
    (fun a b c hab hbc => decide_eq_false (not_lt.mpr ((not_lt.mp (of_decide_eq_false hab)).trans (not_lt.mp (of_decide_eq_false hbc)))))
    r s h
  exact of_decide_eq_false this

/-- An earlier position in the order never holds a smaller entry. -/
theorem order_sorted (f : Fin 128 → EReal) (r s : Fin 128) (h : r < s) : ¬ f (order f r) < f (order f s) := by
  unfold order
  exact sorted_general f r s h

/-- Slot `r` among the eight as a slot of the whole row. -/
def slot (r : Fin 8) : Fin 128 := ⟨r.val, r.isLt.trans (by decide)⟩

/-- Replacing the last coordinate of a position. -/
theorem along_last (b : Fin 512) (i j k : Fin 128) (h : 3 < S512x1x128x128.rank) :
    Shape.Idx.along (s := S512x1x128x128) (ix4 b (0 : Fin 1) i j) ⟨3, h⟩ k = ix4 b 0 i k := by
  funext a
  match a with
  | ⟨0, _⟩ => rfl
  | ⟨1, _⟩ => rfl
  | ⟨2, _⟩ => rfl
  | ⟨3, _⟩ => rfl

/-- The slice of the first eight, read at a slot. -/
theorem slice_read {α : Type} (y : S512x1x128x128.Idx → α) (b : Fin 512) (i : Fin 128) (r : Fin 8) :
    extractStridedSlice S512x1x128x8 (fun _ => 0) y sliceFits_S512x1x128x128_S512x1x128x8 (ix4 b (0 : Fin 1) i r) = y (ix4 b 0 i (slot r)) := by
  refine congrArg y (funext fun a => Fin.ext ?_)
  match a with
  | ⟨0, _⟩ => simp
  | ⟨1, _⟩ => simp
  | ⟨2, _⟩ => simp
  | ⟨3, _⟩ => simp [slot]

/-- The order a sort along the last axis puts a row in. -/
theorem order_read (y : S512x1x128x128.Idx → EReal) (b : Fin 512) (i j : Fin 128) (h : 3 < S512x1x128x128.rank) :
    (sortedFrom (fun k k' : Fin 128 =>
      FloatOps.cmpfTotal (F := Ideal) (φ := .f32) CmpDirection.gt (y (Shape.Idx.along (s := S512x1x128x128) (ix4 b (0 : Fin 1) i j) ⟨3, h⟩ k))
        (y (Shape.Idx.along (s := S512x1x128x128) (ix4 b (0 : Fin 1) i j) ⟨3, h⟩ k')) == 1#1) j)
      = order (fun j => y (ix4 b 0 i j)) j := by
  unfold order
  refine congrArg (fun R => sortedFrom R j) (funext fun k => funext fun k' => ?_)
  rw [along_last, along_last]
  rfl

/-- The selected values: the entries at the first eight positions of the order. -/
theorem pick_value (y : S512x1x128x128.Idx → EReal) (b : Fin 512) (i : Fin 128) (r : Fin 8) :
    (Host.topK S512x1x128x8 3 (FloatOps.cmpfTotal (F := Ideal) (φ := .f32) .gt) y sliceFits_S512x1x128x128_S512x1x128x8).1 (ix4 b 0 i r)
      = y (ix4 b 0 i (order (fun j => y (ix4 b 0 i j)) (slot r))) := by
  unfold Host.topK
  dsimp only
  rw [slice_read]
  unfold Host.sort2
  rw [dif_pos (show 3 < S512x1x128x128.rank by decide)]
  dsimp only
  exact congrArg y ((along_last b i (slot r) _ _).trans (congrArg (fun k => ix4 b (0 : Fin 1) i k) (order_read y b i (slot r) _)))

/-- The selected positions, as words. -/
theorem pick_index (y : S512x1x128x128.Idx → EReal) (b : Fin 512) (i : Fin 128) (r : Fin 8) :
    (Host.topK S512x1x128x8 3 (FloatOps.cmpfTotal (F := Ideal) (φ := .f32) .gt) y sliceFits_S512x1x128x128_S512x1x128x8).2 (ix4 b 0 i r)
      = BitVec.ofNat 32 (order (fun j => y (ix4 b 0 i j)) (slot r)).val := by
  unfold Host.topK
  dsimp only
  rw [slice_read]
  unfold Host.sort2
  rw [dif_pos (show 3 < S512x1x128x128.rank by decide)]
  dsimp only
  have e := (along_last b i (slot r) _ (by decide)).trans (congrArg (fun k => ix4 b (0 : Fin 1) i k) (order_read y b i (slot r) (by decide)))
  refine (congrArg (fun k => if hd : 3 < S512x1x128x128.rank then iotaInDim S512x1x128x128 32 ⟨3, hd⟩ k else 0#32) e).trans ?_
  rw [dif_pos (by decide)]
  rfl

end HeadReference
-- ==== Proof.RefScatter.lean ====
/-
  Where the selected weights are stored, and the array of weights after that.
-/
module

public import proofs.«01_k».proof.Proof.RefPick
public import Idealize.ShloMosaic.Lib.Routing.OpsPair

@[expose] public section

set_option maxRecDepth 16384

noncomputable section

namespace HeadReference

open Idealize.ShloMosaic Idealize.ShloMosaic.Routing
open Cert.ReferenceIdeal Cert.ReferenceIdeal.Gen Cert.ReferenceIdeal.Read

variable (x : (⟨S512x128x64, .f32⟩ : BufTy).Contents (Elt Ideal))
  (wk wq wv : (⟨S64x64, .f32⟩ : BufTy).Contents (Elt Ideal))

/-- The first index column: the batch number. -/
theorem index0_apply (b : Fin 512) (i : Fin 128) (r : Fin 8) :
    (val_main_v81 (F := Ideal) : S512x1x128x8x1.Idx → BitVec 32) (ix5 b (0 : Fin 1) i r (0 : Fin 1)) =
      Scalar.select (IntOp.cmpi .slt (BitVec.ofNat 32 b.val) 0#32) (IntOp.addi (BitVec.ofNat 32 b.val) 512#32) (BitVec.ofNat 32 b.val) := by
  pointwise [val_main_v81, val_main_v78, val_main_v62, val_main_v61, val_main_v60, val_main_c_16, val_main_v59, val_main_v58, val_main_c_15, val_main_v52, val_main_v51]

/-- The second index column: zero, the one head. -/
theorem index1_apply (b : Fin 512) (i : Fin 128) (r : Fin 8) :
    (val_main_v82 (F := Ideal) : S512x1x128x8x1.Idx → BitVec 32) (ix5 b (0 : Fin 1) i r (0 : Fin 1)) = 0#32 := by
  pointwise [val_main_v82, val_main_v79, val_main_v67, val_main_v66, val_main_v65, val_main_c_18, val_main_v64, val_main_v63, val_main_c_17, val_main_v54, val_main_v53]
  try rfl

/-- The third index column: the query position. -/
theorem index2_apply (b : Fin 512) (i : Fin 128) (r : Fin 8) :
    (val_main_v83 (F := Ideal) : S512x1x128x8x1.Idx → BitVec 32) (ix5 b (0 : Fin 1) i r (0 : Fin 1)) =
      Scalar.select (IntOp.cmpi .slt (BitVec.ofNat 32 i.val) 0#32) (IntOp.addi (BitVec.ofNat 32 i.val) 128#32) (BitVec.ofNat 32 i.val) := by
  pointwise [val_main_v83, val_main_v80, val_main_v72, val_main_v71, val_main_v70, val_main_c_20, val_main_v69, val_main_v68, val_main_c_19, val_main_v56, val_main_v55]

/-- The fourth index column: the selected key position. -/
theorem index3_apply (b : Fin 512) (i : Fin 128) (r : Fin 8) :
    (val_main_v84 x wk wq : S512x1x128x8x1.Idx → BitVec 32) (ix5 b (0 : Fin 1) i r (0 : Fin 1)) =
      (fun n : BitVec 32 => Scalar.select (IntOp.cmpi .slt n 0#32) (IntOp.addi n 128#32) n) (val_main_indices x wk wq (ix4 b 0 i r)) := by
  unfold val_main_v84 val_main_v77 val_main_v76 val_main_v74
  generalize val_main_indices x wk wq = n
  pointwise [val_main_v75, val_main_c_22, val_main_v73, val_main_c_21]

/-- The wrap of negative indices changes no batch number. -/
theorem wrap512 : ∀ b : Fin 512, (Scalar.select (IntOp.cmpi .slt (BitVec.ofNat 32 b.val) 0#32) (IntOp.addi (BitVec.ofNat 32 b.val) 512#32) (BitVec.ofNat 32 b.val)).toInt = (b.val : Int) := by
  decide +kernel

/-- The wrap of negative indices changes no position. -/
theorem wrap128 : ∀ b : Fin 128, (Scalar.select (IntOp.cmpi .slt (BitVec.ofNat 32 b.val) 0#32) (IntOp.addi (BitVec.ofNat 32 b.val) 128#32) (BitVec.ofNat 32 b.val)).toInt = (b.val : Int) := by
  decide +kernel

/-- The first component of an update's index row. -/
theorem column0 (b : Fin 512) (i : Fin 128) (r : Fin 8) :
    (val_main_v85 x wk wq : S512x1x128x8x4.Idx → BitVec 32) (ix5 b (0 : Fin 1) i r (0 : Fin 4)) = (val_main_v81 (F := Ideal) : S512x1x128x8x1.Idx → BitVec 32) (ix5 b (0 : Fin 1) i r (0 : Fin 1)) := by
  unfold val_main_v85
  generalize val_main_v84 x wk wq = n
  pointwise []

/-- The second component of an update's index row. -/
theorem column1 (b : Fin 512) (i : Fin 128) (r : Fin 8) :
    (val_main_v85 x wk wq : S512x1x128x8x4.Idx → BitVec 32) (ix5 b (0 : Fin 1) i r (1 : Fin 4)) = (val_main_v82 (F := Ideal) : S512x1x128x8x1.Idx → BitVec 32) (ix5 b (0 : Fin 1) i r (0 : Fin 1)) := by
  unfold val_main_v85
  generalize val_main_v84 x wk wq = n
  pointwise []

/-- The third component of an update's index row. -/
theorem column2 (b : Fin 512) (i : Fin 128) (r : Fin 8) :
    (val_main_v85 x wk wq : S512x1x128x8x4.Idx → BitVec 32) (ix5 b (0 : Fin 1) i r (2 : Fin 4)) = (val_main_v83 (F := Ideal) : S512x1x128x8x1.Idx → BitVec 32) (ix5 b (0 : Fin 1) i r (0 : Fin 1)) := by
  unfold val_main_v85
  generalize val_main_v84 x wk wq = n
  pointwise []

/-- The fourth component of an update's index row. -/
theorem column3 (b : Fin 512) (i : Fin 128) (r : Fin 8) :
    (val_main_v85 x wk wq : S512x1x128x8x4.Idx → BitVec 32) (ix5 b (0 : Fin 1) i r (3 : Fin 4)) = (val_main_v84 x wk wq : S512x1x128x8x1.Idx → BitVec 32) (ix5 b (0 : Fin 1) i r (0 : Fin 1)) := by
  unfold val_main_v85
  generalize val_main_v84 x wk wq = n
  pointwise []

/-- The scatter's record. -/
abbrev dims := scatter_S512x1x128x128_S512x1x128x8x4_S512x1x128x8_n_0123_0123_4

/-- No axis of the array is a window axis. -/
theorem no_window (k : S512x1x128x8.Idx) : ∀ a : Fin 4, dims.window k a = 0 := fun a => by
  match a with
  | ⟨0, _⟩ => rfl
  | ⟨1, _⟩ => rfl
  | ⟨2, _⟩ => rfl
  | ⟨3, _⟩ => rfl

/-- Where an update starts on an axis: the entry of its index row for that axis. -/
theorem start_read (idx : S512x1x128x8x4.Idx → BitVec 32) (b : Fin 512) (i : Fin 128) (r : Fin 8) :
    ∀ a : Fin 4, dims.start (ix4 b (0 : Fin 1) i r) idx a = (idx (ix5 b (0 : Fin 1) i r a)).toInt := fun a => by
  have hm : ∀ q : Fin 4, q ∈ dims.scatterDimsToOperandDims := by decide
  unfold ScatterDims.start
  rw [dif_pos (hm a)]
  refine congrArg (fun k => (idx k).toInt) (funext fun c => Fin.ext ?_)
  match a with
  | ⟨0, _⟩ => match c with
    | ⟨0, _⟩ => rfl
    | ⟨1, _⟩ => rfl
    | ⟨2, _⟩ => rfl
    | ⟨3, _⟩ => rfl
    | ⟨4, _⟩ => rfl
  | ⟨1, _⟩ => match c with
    | ⟨0, _⟩ => rfl
    | ⟨1, _⟩ => rfl
    | ⟨2, _⟩ => rfl
    | ⟨3, _⟩ => rfl
    | ⟨4, _⟩ => rfl
  | ⟨2, _⟩ => match c with
    | ⟨0, _⟩ => rfl
    | ⟨1, _⟩ => rfl
    | ⟨2, _⟩ => rfl
    | ⟨3, _⟩ => rfl
    | ⟨4, _⟩ => rfl
  | ⟨3, _⟩ => match c with
    | ⟨0, _⟩ => rfl
    | ⟨1, _⟩ => rfl
    | ⟨2, _⟩ => rfl
    | ⟨3, _⟩ => rfl
    | ⟨4, _⟩ => rfl

/-- The row of decayed scores, as the reference's array holds it. -/
abbrev line (b : Fin 512) (i : Fin 128) : Fin 128 → EReal :=
  fun j => (val_main_v31 x wk wq : Vec Ideal S512x1x128x128 .f32) (ix4 b 0 i j)

/-- A selected value is the row's entry at that place of its order. -/
theorem values_read (b : Fin 512) (i : Fin 128) (r : Fin 8) :
    (val_main_values x wk wq : Vec Ideal S512x1x128x8 .f32) (ix4 b 0 i r) = line x wk wq b i (order (line x wk wq b i) (slot r)) :=
  pick_value (val_main_v31 x wk wq) b i r

/-- A selected index is the word of the position at that place of the row's order. -/
theorem indices_read (b : Fin 512) (i : Fin 128) (r : Fin 8) :
    (val_main_indices x wk wq : S512x1x128x8.Idx → BitVec 32) (ix4 b 0 i r) = BitVec.ofNat 32 (order (line x wk wq b i) (slot r)).val :=
  pick_index (val_main_v31 x wk wq) b i r

/-- Update `r` of a query position lands exactly on that query position's row, at the `r`-th position of its order. -/
theorem lands_iff (b b' : Fin 512) (i i' j : Fin 128) (r : Fin 8) :
    dims.resultIdx? (ix4 b (0 : Fin 1) i r) (val_main_v85 x wk wq) = some (ix4 b' (0 : Fin 1) i' j)
      ↔ b = b' ∧ i = i' ∧ order (line x wk wq b i) (slot r) = j := by
  have h0 : dims.start (ix4 b (0 : Fin 1) i r) (val_main_v85 x wk wq) 0 = (b.val : Int) := by
    rw [start_read, column0, index0_apply, wrap512]
  have h1 : dims.start (ix4 b (0 : Fin 1) i r) (val_main_v85 x wk wq) 1 = 0 := by
    rw [start_read, column1, index1_apply]
    rfl
  have h2 : dims.start (ix4 b (0 : Fin 1) i r) (val_main_v85 x wk wq) 2 = (i.val : Int) := by
    rw [start_read, column2, index2_apply, wrap128]
  have h3 : dims.start (ix4 b (0 : Fin 1) i r) (val_main_v85 x wk wq) 3 = ((order (line x wk wq b i) (slot r)).val : Int) := by
    rw [start_read, column3, index3_apply, indices_read]
    exact wrap128 _
  rw [resultIdx?_eq_some]
  constructor
  · intro h
    have e0 := h 0
    have e2 := h 2
    have e3 := h 3
    rw [no_window, h0] at e0
    rw [no_window, h2] at e2
    rw [no_window, h3] at e3
    have e0' : (b.val : Int) + ((0 : Nat) : Int) = (b'.val : Int) := e0
    have e2' : (i.val : Int) + ((0 : Nat) : Int) = (i'.val : Int) := e2
    have e3' : ((order (line x wk wq b i) (slot r)).val : Int) + ((0 : Nat) : Int) = (j.val : Int) := e3
    exact ⟨Fin.ext (by omega), Fin.ext (by omega), Fin.ext (by omega)⟩
  · rintro ⟨rfl, rfl, rfl⟩ a
    rw [no_window]
    match a with
    | ⟨0, _⟩ => exact (congrArg (· + ((0 : Nat) : Int)) h0).trans (Int.add_zero _)
    | ⟨1, _⟩ => exact (congrArg (· + ((0 : Nat) : Int)) h1).trans (Int.add_zero _)
    | ⟨2, _⟩ => exact (congrArg (· + ((0 : Nat) : Int)) h2).trans (Int.add_zero _)
    | ⟨3, _⟩ => exact (congrArg (· + ((0 : Nat) : Int)) h3).trans (Int.add_zero _)

/-- Every update position is a batch, a query position and a slot. -/
theorem update_eq (k : S512x1x128x8.Idx) : ∃ (b : Fin 512) (i : Fin 128) (r : Fin 8), k = ix4 b (0 : Fin 1) i r := by
  refine ⟨k 0, k 2, k 3, funext fun a => ?_⟩
  match a with
  | ⟨0, _⟩ => rfl
  | ⟨1, _⟩ => exact Subsingleton.elim (α := Fin 1) _ _
  | ⟨2, _⟩ => rfl
  | ⟨3, _⟩ => rfl

/-- THE SCATTERED WEIGHTS: a key position among the eight selected carries its code, every other one zero. -/
theorem weight_apply (b : Fin 512) (i j : Fin 128) :
    (val_main_v86 x wk wq : Vec Ideal S512x1x128x128 .f32) (ix4 b 0 i j)
      = if ∃ r : Fin 8, order (line x wk wq b i) (slot r) = j
        then code (line x wk wq b i j) (scale (HeadRow.top (line x wk wq b i)) (HeadRow.spread (line x wk wq b i))) else 0 := by
  unfold val_main_v86
  by_cases h : ∃ r : Fin 8, order (line x wk wq b i) (slot r) = j
  · rw [if_pos h]
    obtain ⟨r, hr⟩ := h
    refine scatter_set_hit dims _ _ _ _ _ (fun k hk => ?_) (ix4 b (0 : Fin 1) i r) ((lands_iff x wk wq b b i i j r).mpr ⟨rfl, rfl, hr⟩)
    obtain ⟨b', i', r', rfl⟩ := update_eq k
    obtain ⟨rfl, rfl, hj⟩ := (lands_iff x wk wq b' b i' i j r').mp hk
    rw [code_apply, values_read, hj, top_apply, spread_apply]
  · rw [if_neg h]
    rw [scatter_set_miss dims _ _ _ _ (fun k hk => ?_)]
    · exact (val_main_v57_apply (F := Ideal) _).trans Ideal.ofBits_zero_f32
    · obtain ⟨b', i', r', rfl⟩ := update_eq k
      obtain ⟨rfl, rfl, hj⟩ := (lands_iff x wk wq b' b i' i j r').mp hk
      exact h ⟨r', hj⟩

end HeadReference
-- ==== Proof.RefResult.lean ====
/-
  The reference's result, read at an index: the weights over the divisor, summed against the projected values.
-/
module

public import proofs.«01_k».proof.Proof.RefScatter

@[expose] public section

set_option maxRecDepth 16384

noncomputable section

namespace HeadReference

open Idealize.ShloMosaic
open Cert.ReferenceIdeal Cert.ReferenceIdeal.Gen Cert.ReferenceIdeal.Read

variable (x : (⟨S512x128x64, .f32⟩ : BufTy).Contents (Elt Ideal))
  (wk wq wv : (⟨S64x64, .f32⟩ : BufTy).Contents (Elt Ideal)) (g : (⟨S_, .f32⟩ : BufTy).Contents (Elt Ideal))

/-- A weight divided by the last argument. -/
theorem quotient_apply (b : Fin 512) (i j : Fin 128) :
    (val_main_v89 x wk wq g : Vec Ideal S512x128x128 .f32) (ix3 b i j)
      = Ideal.div ((val_main_v86 x wk wq : Vec Ideal S512x1x128x128 .f32) (ix4 b 0 i j)) (g ix0) := by
  unfold val_main_v89 val_main_v88
  generalize val_main_v86 x wk wq = w
  pointwise [val_main_v87]

/-- A projected value. -/
theorem value_apply (b : Fin 512) (j : Fin 128) (h : Fin 64) :
    (val_main_v2 x wv : Vec Ideal S512x128x64 .f32) (ix3 b j h) = ∑ c : Fin 64, x (ix3 b j c) * wv (ix2 c h) := by
  pointwise [val_main_v2]

/-- The result is the weighted sum of the projected values. -/
theorem sum_apply (b : Fin 512) (i : Fin 128) (h : Fin 64) :
    (val_main_v90 x wk wq wv g : Vec Ideal S512x128x64 .f32) (ix3 b i h)
      = ∑ j : Fin 128, (val_main_v89 x wk wq g : Vec Ideal S512x128x128 .f32) (ix3 b i j)
          * (val_main_v2 x wv : Vec Ideal S512x128x64 .f32) (ix3 b j h) := by
  unfold val_main_v90
  generalize val_main_v89 x wk wq g = w
  generalize val_main_v2 x wv = v
  pointwise []

/-- THE REFERENCE'S RESULT: a sum over the key positions, each selected weight divided by the last argument and multiplied by the projected value. -/
theorem result_apply (b : Fin 512) (i : Fin 128) (h : Fin 64) :
    (val_main_v90 x wk wq wv g : Vec Ideal S512x128x64 .f32) (ix3 b i h)
      = ∑ j : Fin 128, Ideal.div (if ∃ r : Fin 8, order (row x wk wq b i) (slot r) = j
          then code (row x wk wq b i j) (scale (HeadRow.top (row x wk wq b i)) (HeadRow.spread (row x wk wq b i))) else 0) (g ix0)
        * ∑ c : Fin 64, x (ix3 b j c) * wv (ix2 c h) := by
  rw [sum_apply]
  refine Finset.sum_congr rfl fun j _ => ?_
  have e : line x wk wq b i = row x wk wq b i := funext fun j => row_apply x wk wq b i j
  rw [value_apply, quotient_apply, weight_apply, e]

end HeadReference
-- ==== Proof.KernelBlock.lean ====
/-
  What ONE visit of the kernel writes, read at an index: the block of 64 batch entries it works on is a
  function of six staged arrays, and each element of the written block is a plain formula of those.
  The kernel keeps the scores transposed, keys along the second axis and queries along the third.
-/
module

public import proofs.«01_k».proof.Proof.Gen.KernelIdeal.Skeleton
public import Idealize.ShloMosaic.Lib.Pointwise
public import proofs.«01_k».proof.Proof.Row
public import proofs.«01_k».proof.Proof.Literals

@[expose] public section

set_option maxRecDepth 16384

namespace HeadKernel

open HeadLiterals Idealize.ShloMosaic Cert.KernelIdeal Cert.KernelIdeal.Gen

noncomputable section

/-- The largest entry along the keys, spread over the block again. -/
def cutMax (v : FVec Ideal S64x128x128 .f32) : FVec Ideal S64x128x128 .f32 :=
  broadcastTo S64x128x128
    (shapeCast S64x1x128 (multiReduction .maximumf [1] S64x128 v 0xFF800000#32 reduces_S64x128x128_S64x128 (.inl rfl) rfl)
      shapeCasts_S64x128_S64x1x128)
    broadcasts_S64x1x128_S64x128x128

/-- One round of the kernel's selection: of the scores `f`, those below the largest entry of `v`
    stay, the others become zero. -/
def keep (f v : FVec Ideal S64x128x128 .f32) : FVec Ideal S64x128x128 .f32 :=
  select (cmpf .olt f (cutMax v)) f (broadcast S64x128x128 (Scalar.ofBits .f32 0x00000000#32))

/-- One round of cutting the maximum off, read at a position. -/
theorem cutMax_apply (v : FVec Ideal S64x128x128 .f32) (b : Fin 64) (j i : Fin 128) :
    cutMax v (ix3 b j i) = Finset.univ.fold max ⊥ fun k : Fin 128 => v (ix3 b k i) := by
  pointwise [cutMax]
  rw [lit_negInf]

/-- The entries below the last maximum, read at a position. -/
theorem keep_apply (f v : FVec Ideal S64x128x128 .f32) (b : Fin 64) (j i : Fin 128) :
    keep f v (ix3 b j i) = if f (ix3 b j i) < cutMax v (ix3 b j i) then f (ix3 b j i) else 0 := by
  pointwise [keep]

/-- Repeating the round: the largest entry after `n` rounds is the `n`-th cut of the row. -/
theorem cutMax_iterate (f : FVec Ideal S64x128x128 .f32) (b : Fin 64) (i : Fin 128) (n : Nat) :
    ∀ j, cutMax ((keep f)^[n] f) (ix3 b j i) = HeadRow.cutoff (fun k => f (ix3 b k i)) n := by
  induction n with
  | zero => intro j; rw [cutMax_apply]; rfl
  | succ n ih =>
    intro j
    rw [cutMax_apply, HeadRow.cutoff]
    refine congrArg (fun v => Finset.fold max ⊥ v Finset.univ) (funext fun k => ?_)
    rw [Function.iterate_succ_apply', keep_apply, ih]

/-- The second stage of the selection is five rounds more and the comparison. -/
theorem stage2_eq (f v : FVec Ideal S64x128x128 .f32) :
    k0_pay8 (F := Ideal) f v = cmpf .oge f (cutMax (keep f (keep f (keep f (keep f (keep f v)))))) := rfl

/-- The first stage of the selection is two rounds on the scores. -/
theorem stage1_eq (x : Vec Ideal S64x128x64 .f32) (wq wk : Vec Ideal S64x64 .f32) (d : Vec Ideal S128x128 .f32) :
    k0_pay6 (F := Ideal) x wq wk d = keep (k0_pay4 x wq wk d) (keep (k0_pay4 x wq wk d) (k0_pay4 x wq wk d)) := by
  unfold k0_pay6 k0_pay5
  generalize k0_pay4 (F := Ideal) x wq wk d = f
  rfl

/-- A comparison of blocks compares entry by entry. -/
theorem cmpf_at (p : CmpFPredicate) (f g : FVec Ideal S64x128x128 .f32) (i : S64x128x128.Idx) :
    cmpf p f g i = Ideal.cmp p (f i) (g i) := rfl

/-- The mask of the kernel's selection: the score reaches the cut after seven rounds. -/
theorem mask_apply (x : Vec Ideal S64x128x64 .f32) (wq wk : Vec Ideal S64x64 .f32) (d : Vec Ideal S128x128 .f32)
    (b : Fin 64) (j i : Fin 128) :
    k0_pay8 (F := Ideal) (k0_pay4 x wq wk d) (k0_pay6 x wq wk d) (ix3 b j i)
      = BitVec.ofBool (decide (HeadRow.cutoff (fun k => k0_pay4 (F := Ideal) x wq wk d (ix3 b k i)) 7
          ≤ k0_pay4 (F := Ideal) x wq wk d (ix3 b j i))) := by
  rw [stage2_eq, stage1_eq]
  generalize k0_pay4 (F := Ideal) x wq wk d = f
  have h7 : keep f (keep f (keep f (keep f (keep f (keep f (keep f f)))))) = (keep f)^[7] f := by
    simp only [Function.iterate_succ_apply', Function.iterate_zero, id]
  rw [h7, cmpf_at, cutMax_iterate f b i 7 j]
  rfl

/-- The level the kernel computes for every score of a block. -/
theorem level_apply (f : FVec Ideal S64x128x128 .f32) (m : FVec Ideal S64x1x128 .f32) (b : Fin 64) (j i : Fin 128) :
    k0_pay7 (F := Ideal) f m (ix3 b j i) = HeadRow.level (Ideal.ofBits .f32 0x358637BD#32) (f (ix3 b j i)) (m (ix3 b 0 i)) := by
  pointwise [k0_pay7]
  rw [lit_255]
  rfl

/-- Which levels the kernel lowers by 256. -/
theorem big_apply (f : FVec Ideal S64x128x128 .f32) (m : FVec Ideal S64x1x128 .f32) (b : Fin 64) (j i : Fin 128) :
    k0_pay9 (F := Ideal) f m (ix3 b j i)
      = BitVec.ofBool (decide (((255 / 2 : ℝ) : EReal) < k0_pay7 (F := Ideal) f m (ix3 b j i))) := by
  rw [← lit_middle]
  rfl

/-- The row's maximum as the kernel stages it. -/
theorem max_apply (x : Vec Ideal S64x128x64 .f32) (wq wk : Vec Ideal S64x64 .f32) (d : Vec Ideal S128x128 .f32)
    (b : Fin 64) (i : Fin 128) :
    k0_pay5 (F := Ideal) x wq wk d (ix3 b 0 i) = HeadRow.top fun k => k0_pay4 (F := Ideal) x wq wk d (ix3 b k i) := by
  unfold k0_pay5
  generalize k0_pay4 (F := Ideal) x wq wk d = f
  pointwise
  rw [lit_negInf]
  rfl

/-- A bit made of a decided proposition selects as the proposition does. -/
theorem select_decide {α : Type} (p : Prop) [Decidable p] (a b : α) :
    Scalar.select (BitVec.ofBool (decide p)) a b = if p then a else b := by
  by_cases h : p <;> simp [Scalar.select, h]

/-- The written block: the selected signed levels times the values, summed over the keys. -/
theorem out_apply (v : FVec Ideal S64x128x64 .f32) (n : FVec Ideal S64x128x128 .f32) (mask big : IVec S64x128x128 1)
    (b : Fin 64) (i : Fin 128) (h : Fin 64) :
    k0_pay1 (F := Ideal) v n mask big (Scalar.ofBits .f32 0x00000000#32) k0_pay10 (ix3 b i h)
      = ∑ j : Fin 128, Scalar.select (mask (ix3 b j i)) (n (ix3 b j i) - Scalar.select (big (ix3 b j i)) 256 0) 0 * v (ix3 b j h) := by
  pointwise [k0_pay1, k0_pay10]
  rw [lit_256]
  refine Finset.sum_congr rfl fun j _ => ?_
  unfold Scalar.select
  split_ifs <;> rfl

/-- The weight the kernel gives entry `j` of a row of scores. -/
def kernelWeight (f : Fin 128 → EReal) (j : Fin 128) : EReal :=
  if HeadRow.cutoff f 7 ≤ f j then
    HeadRow.signedLevel (HeadRow.level (Ideal.ofBits .f32 0x358637BD#32) (f j) (HeadRow.top f))
  else 0

/-- THE BLOCK: element (b, i, h) of what one visit writes is the row's weights against the values. -/
theorem block_apply (x : Vec Ideal S64x128x64 .f32) (wq wk : Vec Ideal S64x64 .f32) (d : Vec Ideal S128x128 .f32)
    (v : FVec Ideal S64x128x64 .f32) (b : Fin 64) (i : Fin 128) (h : Fin 64) :
    k0_pay1 (F := Ideal) v (k0_pay7 (k0_pay4 x wq wk d) (k0_pay5 x wq wk d))
        (k0_pay8 (k0_pay4 x wq wk d) (k0_pay6 x wq wk d)) (k0_pay9 (k0_pay4 x wq wk d) (k0_pay5 x wq wk d))
        (Scalar.ofBits .f32 0x00000000#32) k0_pay10 (ix3 b i h)
      = ∑ j : Fin 128, kernelWeight (fun k => k0_pay4 (F := Ideal) x wq wk d (ix3 b k i)) j * v (ix3 b j h) := by
  rw [out_apply]
  refine Finset.sum_congr rfl fun j _ => ?_
  rw [mask_apply, big_apply, level_apply, max_apply, select_decide, select_decide]
  rfl

end

end HeadKernel
-- ==== Proof.KernelScores.lean ====
/-
  The contractions of ONE visit of the kernel, read at an index: the projections of the staged block of
  64 batch entries, the scores they give (keys along the second axis, queries along the third) and the
  values scaled by the reciprocal of `gamma`.
-/
module

public import proofs.«01_k».proof.Proof.Gen.KernelIdeal.Skeleton
public import Idealize.ShloMosaic.Lib.Pointwise
public import proofs.«01_k».proof.Proof.Row

@[expose] public section

set_option maxRecDepth 16384

namespace HeadKernel

open Idealize.ShloMosaic Cert.KernelIdeal Cert.KernelIdeal.Gen

noncomputable section

/-- The projected inputs as the kernel computes them. -/
def proj (x : Vec Ideal S64x128x64 .f32) (w : Vec Ideal S64x64 .f32) (b : Fin 64) (t : Fin 128) (h : Fin 64) : EReal :=
  ∑ c : Fin 64, x (ix3 b t c) * w (ix2 c h)

/-- The scores of the block: key `j`, query `i`. -/
theorem scores_apply (x : Vec Ideal S64x128x64 .f32) (wq wk : Vec Ideal S64x64 .f32) (d : Vec Ideal S128x128 .f32)
    (b : Fin 64) (j i : Fin 128) :
    k0_pay4 (F := Ideal) x wq wk d (ix3 b j i) = max (∑ h, proj x wk b j h * proj x wq b i h) 0 * d (ix2 j i) := by
  pointwise [k0_pay4, k0_pay2]
  rfl

/-- The projected values of a block, times the reciprocal, read at a position. -/
theorem values_apply (x : Vec Ideal S64x128x64 .f32) (wv : Vec Ideal S64x64 .f32) (g : Vec Ideal S1x1 .f32)
    (b : Fin 64) (t : Fin 128) (h : Fin 64) :
    k0_pay3 (F := Ideal) x wv g (ix3 b t h) = proj x wv b t h * Ideal.div 1 (g (ix2 0 0)) := by
  pointwise [k0_pay3, k0_pay2]
  rfl

end

end HeadKernel
-- ==== Proof.KernelArray.lean ====
/-
  The kernel's whole result array after the run, read at an index: the eight visits' blocks tile it, each
  holding the formula of the module on one visit over the blocks of the arguments and over the table of
  decays the host computes before the launch.
-/
module

public import proofs.«01_k».proof.Proof.Gen.KernelIdeal.Value
public import Idealize.ShloMosaic.Lib.Claim
public import proofs.«01_k».proof.Proof.KernelBlock
public import proofs.«01_k».proof.Proof.KernelScores

@[expose] public section

set_option maxRecDepth 16384

namespace HeadKernel

open HeadLiterals Idealize.ShloMosaic Idealize.ShloMosaic.TcCoe Cert.KernelIdeal Cert.KernelIdeal.Gen
open Idealize.ShloMosaic.Pipeline (Dat)

noncomputable section

variable (m : (ℓ : Loc nD τ sig) → Buf (Elt Ideal) ℓ)

/-- Where the windows stand at visit `t`: the input block and the output block are the `t`-th 64 batch
    entries, every other window is its whole array. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = t.val ∧ win0_6.index t (1 : Fin 3) = 0 ∧ win0_6.index t (2 : Fin 3) = 0)
    ∧ win0_6.flush t = true :=
  (by decide +kernel : ∀ t : Fin grid0.N, _)

/-- Entry `b` of the batch of 512, from the visit and the entry of its block. -/
def batch (t : Fin cfg0.N) (b : Fin 64) : Fin 512 :=
  ⟨64 * t.val + b.val, by have := t.isLt; have h : cfg0.N = 8 := rfl; have := b.isLt; omega⟩

/-- Where an element of visit `t`'s output block sits in the result array. -/
theorem emb6 (t : Fin cfg0.N) (b : Fin 64) (i : Fin 128) (h : Fin 64) :
    ((cfg0.win 6).blk t).view.emb (ix3 b i h : S64x128x64.Idx) = (ix3 (batch t b) i h : S512x128x64.Idx) := by
  obtain ⟨e0, e1, e2⟩ := (idx_facts t).2.2.2.2.2.2.1
  funext a; apply Fin.ext
  match a with
  | ⟨0, _⟩ => show win0_6.index t (0 : Fin 3) * 64 + 1 * b.val = 64 * t.val + b.val; omega
  | ⟨1, _⟩ => show win0_6.index t (1 : Fin 3) * 128 + 1 * i.val = i.val; omega
  | ⟨2, _⟩ => show win0_6.index t (2 : Fin 3) * 64 + 1 * h.val = h.val; omega

/-- Where an element of visit `t`'s input block sits in the argument array. -/
theorem emb0 (t : Fin cfg0.N) (b : Fin 64) (i : Fin 128) (h : Fin 64) :
    ((cfg0.win 0).blk t).view.emb (ix3 b i h : S64x128x64.Idx) = (ix3 (batch t b) i h : S512x128x64.Idx) := by
  obtain ⟨e0, e1, e2⟩ := (idx_facts t).1
  funext a; apply Fin.ext
  match a with
  | ⟨0, _⟩ => show win0_0.index t (0 : Fin 3) * 64 + 1 * b.val = 64 * t.val + b.val; omega
  | ⟨1, _⟩ => show win0_0.index t (1 : Fin 3) * 128 + 1 * i.val = i.val; omega
  | ⟨2, _⟩ => show win0_0.index t (2 : Fin 3) * 64 + 1 * h.val = h.val; omega

/-- The block of the input at visit `t`. -/
theorem iblk0_apply (c : Dev nD) (t : Fin cfg0.N) (b : Fin 64) (i : Fin 128) (h : Fin 64) :
    (iblk m c 0 t : Vec Ideal S64x128x64 .f32) (ix3 b i h)
      = (m ((c : Thread nD τ).loc main_arg0) : Vec Ideal S512x128x64 .f32) (ix3 (batch t b) i h) := by
  show V m c main_arg0 (((cfg0.win 0).blk t).view.emb (ix3 b i h : S64x128x64.Idx)) = _
  rw [emb0, V_main_arg0]

/-- The first weight window is the query matrix. -/
theorem iblk1_eq (c : Dev nD) (t : Fin cfg0.N) :
    (iblk m c 1 t : Vec Ideal S64x64 .f32) = m ((c : Thread nD τ).loc main_arg2) := by
  obtain ⟨e0, e1⟩ := (idx_facts t).2.1
  funext y
  show V m c main_arg2 (((cfg0.win 1).blk t).view.emb y) = _
  have he : ((cfg0.win 1).blk t).view.emb y = y := by
    funext a; apply Fin.ext
    match a with
    | ⟨0, _⟩ => show win0_1.index t (0 : Fin 2) * 64 + 1 * (y 0).val = (y 0).val; omega
    | ⟨1, _⟩ => show win0_1.index t (1 : Fin 2) * 64 + 1 * (y 1).val = (y 1).val; omega
  rw [he, V_main_arg2]

/-- The second weight window is the key matrix. -/
theorem iblk2_eq (c : Dev nD) (t : Fin cfg0.N) :
    (iblk m c 2 t : Vec Ideal S64x64 .f32) = m ((c : Thread nD τ).loc main_arg1) := by
  obtain ⟨e0, e1⟩ := (idx_facts t).2.2.1
  funext y
  show V m c main_arg1 (((cfg0.win 2).blk t).view.emb y) = _
  have he : ((cfg0.win 2).blk t).view.emb y = y := by
    funext a; apply Fin.ext
    match a with
    | ⟨0, _⟩ => show win0_2.index t (0 : Fin 2) * 64 + 1 * (y 0).val = (y 0).val; omega
    | ⟨1, _⟩ => show win0_2.index t (1 : Fin 2) * 64 + 1 * (y 1).val = (y 1).val; omega
  rw [he, V_main_arg1]

/-- The third weight window is the value matrix. -/
theorem iblk3_eq (c : Dev nD) (t : Fin cfg0.N) :
    (iblk m c 3 t : Vec Ideal S64x64 .f32) = m ((c : Thread nD τ).loc main_arg3) := by
  obtain ⟨e0, e1⟩ := (idx_facts t).2.2.2.1
  funext y
  show V m c main_arg3 (((cfg0.win 3).blk t).view.emb y) = _
  have he : ((cfg0.win 3).blk t).view.emb y = y := by
    funext a; apply Fin.ext
    match a with
    | ⟨0, _⟩ => show win0_3.index t (0 : Fin 2) * 64 + 1 * (y 0).val = (y 0).val; omega
    | ⟨1, _⟩ => show win0_3.index t (1 : Fin 2) * 64 + 1 * (y 1).val = (y 1).val; omega
  rw [he, V_main_arg3]

/-- The distance of two positions as the host's integers compute it. -/
def dist (i j : Fin 128) : BitVec 32 := IntOp.absi (IntOp.subi (BitVec.ofNat 32 i.val) (BitVec.ofNat 32 j.val))

/-- The decay between positions `i` and `j`: one minus a tenth of their distance over 128. -/
def decay (i j : Fin 128) : EReal :=
  1 - Ideal.div (Ideal.ofBits .f32 0x3DCCCCCD#32 * (((dist i j).toInt : ℝ) : EReal)) (Ideal.ofBits .f32 0x43000000#32)

/-- The table window: where the key `j` is not after the query `i`, an eighth of the decay; zero elsewhere. -/
theorem iblk4_apply (c : Dev nD) (t : Fin cfg0.N) (j i : Fin 128) :
    (iblk m c 4 t : Vec Ideal S128x128 .f32) (ix2 j i)
      = Scalar.select (IntOp.cmpi .sle (BitVec.ofNat 32 j.val) (BitVec.ofNat 32 i.val))
          (decay i j * Ideal.ofBits .f32 0x3E000000#32) 0 := by
  obtain ⟨e0, e1⟩ := (idx_facts t).2.2.2.2.1
  show V m c main_v23 (((cfg0.win 4).blk t).view.emb (ix2 j i : S128x128.Idx)) = _
  have he : ((cfg0.win 4).blk t).view.emb (ix2 j i : S128x128.Idx) = (ix2 j i : S128x128.Idx) := by
    funext a; apply Fin.ext
    match a with
    | ⟨0, _⟩ => show win0_4.index t (0 : Fin 2) * 128 + 1 * j.val = j.val; omega
    | ⟨1, _⟩ => show win0_4.index t (1 : Fin 2) * 128 + 1 * i.val = i.val; omega
  rw [he]
  simp only [V, hostOps0, hostOps0_1, hostOps0_2, List.flatten_cons, List.flatten_nil, List.append_nil, List.cons_append, List.nil_append]
  entry_read
  pointwise
  simp only [StableHlo.TRef.toBuf, StableHlo.TRef.ofBuf, cast_eq]
  pointwise
  rfl

/-- The scalar window is `gamma`. -/
theorem iblk5_apply (c : Dev nD) (t : Fin cfg0.N) :
    (iblk m c 5 t : Vec Ideal S1x1 .f32) (ix2 0 0)
      = (m ((c : Thread nD τ).loc main_arg4) : Vec Ideal S_ .f32) (fun a => a.elim0) := by
  show V m c main_v0 (((cfg0.win 5).blk t).view.emb (ix2 0 0 : S1x1.Idx)) = _
  simp only [V, hostOps0, hostOps0_1, hostOps0_2, List.flatten_cons, List.flatten_nil, List.append_nil, List.cons_append, List.nil_append]
  entry_read
  exact congrArg (m (c, Proc.tc.devRef main_arg4)) (funext fun a => a.elim0)

/-- A projection of the input: entry `h` of the row of `x` at batch `b`, position `t`, against `w`. -/
def proj512 (x : Vec Ideal S512x128x64 .f32) (w : Vec Ideal S64x64 .f32) (b : Fin 512) (t : Fin 128) (h : Fin 64) : EReal :=
  ∑ c : Fin 64, x (ix3 b t c) * w (ix2 c h)

/-- The row of scores of query `i` in batch `b`, as the kernel computes it: over the keys `j`. -/
def kernelRow (x : Vec Ideal S512x128x64 .f32) (wk wq : Vec Ideal S64x64 .f32) (b : Fin 512) (i : Fin 128) : Fin 128 → EReal :=
  fun j => max (∑ h, proj512 x wk b j h * proj512 x wq b i h) 0
    * Scalar.select (IntOp.cmpi .sle (BitVec.ofNat 32 j.val) (BitVec.ofNat 32 i.val))
        (decay i j * Ideal.ofBits .f32 0x3E000000#32) 0

/-- A projection of a block is the projection of the whole array at the block's batch entries. -/
theorem proj_batch (c : Dev nD) (t : Fin cfg0.N) (w : Vec Ideal S64x64 .f32) (b : Fin 64) (i : Fin 128) (h : Fin 64) :
    proj (iblk m c 0 t : Vec Ideal S64x128x64 .f32) w b i h
      = proj512 (m ((c : Thread nD τ).loc main_arg0)) w (batch t b) i h :=
  Finset.sum_congr rfl fun k _ => congrArg (· * w (ix2 k h)) (iblk0_apply m c t b i k)

/-- The three zero offsets, as a function. -/
theorem zeros3 : (![0, 0, 0] : Fin 3 → Nat) = fun _ => 0 := by decide

/-- The two zero offsets, as a function. -/
theorem zeros2 : (![0, 0] : Fin 2 → Nat) = fun _ => 0 := by decide

/-- What visit `t` leaves at an element of its block. -/
theorem visit_apply (c : Dev nD) (t : Fin cfg0.N) (b : Fin 64) (i : Fin 128) (h : Fin 64) :
    out0_6 (F := Ideal) (iblk m c 0 t) (iblk m c 1 t) (iblk m c 2 t) (iblk m c 3 t) (iblk m c 4 t) (iblk m c 5 t) (ix3 b i h)
      = ∑ j : Fin 128,
          kernelWeight (kernelRow (m ((c : Thread nD τ).loc main_arg0)) (m ((c : Thread nD τ).loc main_arg1))
            (m ((c : Thread nD τ).loc main_arg2)) (batch t b) i) j
          * (proj512 (m ((c : Thread nD τ).loc main_arg0)) (m ((c : Thread nD τ).loc main_arg3)) (batch t b) j h
            * Ideal.div 1 ((m ((c : Thread nD τ).loc main_arg4) : Vec Ideal S_ .f32) (fun a => a.elim0))) := by
  unfold_out out0_6
  rw [View.canon_unit_zero zeros3]
  rw [View.ld_unit_zero zeros3, View.ld_unit_zero zeros2, View.ld_unit_zero zeros2, View.ld_unit_zero zeros2,
    View.ld_unit_zero zeros2, View.ld_unit_zero zeros2]
  rw [block_apply]
  refine Finset.sum_congr rfl fun j _ => ?_
  rw [values_apply, proj_batch, iblk5_apply, iblk3_eq]
  refine congrArg (fun r => kernelWeight r j * _) (funext fun k => ?_)
  rw [scores_apply, iblk4_apply, iblk1_eq, iblk2_eq]
  simp only [proj_batch]
  rfl

/-- THE RESULT ARRAY of the kernel, at an index. -/
theorem result_apply (c : Dev nD) (b : Fin 512) (i : Fin 128) (h : Fin 64) :
    ((dats m 0 c).arrAt 6 cfg0.N : Vec Ideal S512x128x64 .f32) (ix3 b i h)
      = ∑ j : Fin 128,
          kernelWeight (kernelRow (m ((c : Thread nD τ).loc main_arg0)) (m ((c : Thread nD τ).loc main_arg1))
            (m ((c : Thread nD τ).loc main_arg2)) b i) j
          * (proj512 (m ((c : Thread nD τ).loc main_arg0)) (m ((c : Thread nD τ).loc main_arg3)) b j h
            * Ideal.div 1 ((m ((c : Thread nD τ).loc main_arg4) : Vec Ideal S_ .f32) (fun a => a.elim0))) := by
  have hb := b.isLt
  let t : Fin cfg0.N := ⟨b.val / 64, by have h8 : cfg0.N = 8 := rfl; omega⟩
  let bb : Fin 64 := ⟨b.val % 64, Nat.mod_lt _ (by decide)⟩
  have hbt : batch t bb = b := Fin.ext (Nat.div_add_mod b.val 64)
  have hf := (idx_facts t).2.2.2.2.2.2.2
  have hread := congrFun (Cert.KernelIdeal.Value.blocks6 m c t hf) (ix3 bb i h : S64x128x64.Idx)
  rw [Cert.KernelIdeal.Value.flushed6] at hread
  have hread' : ((dats m 0 c).arrAt 6 cfg0.N : Vec Ideal S512x128x64 .f32) (((cfg0.win 6).blk t).view.emb (ix3 bb i h : S64x128x64.Idx))
      = out0_6 (F := Ideal) (iblk m c 0 t) (iblk m c 1 t) (iblk m c 2 t) (iblk m c 3 t) (iblk m c 4 t) (iblk m c 5 t) (ix3 bb i h) := hread
  rw [emb6, hbt, visit_apply, hbt] at hread'
  exact hread'

end

end HeadKernel
-- ==== Proof.Grid.lean ====
/-
  The comparisons and distances of positions, and the agreement of the two programs' rows of scores.
-/
module

public import proofs.«01_k».proof.Proof.RefResult
public import proofs.«01_k».proof.Proof.KernelArray

@[expose] public section

set_option maxRecDepth 16384

noncomputable section

namespace HeadGrid

open Idealize.ShloMosaic

/-- "Key position at most query position" as a signed comparison of words. -/
theorem past_word : ∀ i j : Fin 128, IntOp.cmpi .sle (BitVec.ofNat 32 j.val) (BitVec.ofNat 32 i.val) = BitVec.ofBool (decide (j ≤ i)) := by
  decide +kernel

/-- The same test as the lower triangle writes it. -/
theorem triangle_word : ∀ i j : Fin 128,
    IntOp.cmpi .sge (IntOp.addi (BitVec.ofNat 32 i.val) 0#32) (BitVec.ofNat 32 j.val) = BitVec.ofBool (decide (j ≤ i)) := by
  decide +kernel

/-- Two positions have different words exactly when they differ. -/
theorem differ_word : ∀ j k : Fin 128, IntOp.cmpi .ne (BitVec.ofNat 32 j.val) (BitVec.ofNat 32 k.val) = BitVec.ofBool (decide (j ≠ k)) := by
  decide +kernel

/-- The distance of two positions does not depend on their order and lies in 0 … 127. -/
theorem distance_word : ∀ i j : Fin 128,
    IntOp.absi (IntOp.subi (BitVec.ofNat 32 j.val) (BitVec.ofNat 32 i.val)) = IntOp.absi (IntOp.subi (BitVec.ofNat 32 i.val) (BitVec.ofNat 32 j.val))
      ∧ 0 ≤ (IntOp.absi (IntOp.subi (BitVec.ofNat 32 i.val) (BitVec.ofNat 32 j.val))).toInt
      ∧ (IntOp.absi (IntOp.subi (BitVec.ofNat 32 i.val) (BitVec.ofNat 32 j.val))).toInt ≤ 127 := by
  decide +kernel

/-- The kernel's decay factor is a positive number. -/
theorem decay_pos (i j : Fin 128) : ∃ d : ℝ, 0 < d ∧ HeadKernel.decay i j = ((d : ℝ) : EReal) := by
  obtain ⟨α, hα, hα1, ha⟩ := HeadLiterals.lit_alpha
  obtain ⟨-, h0, h1⟩ := distance_word i j
  have h0' : (0 : ℝ) ≤ ((HeadKernel.dist i j).toInt : ℝ) := by exact_mod_cast h0
  have h1' : ((HeadKernel.dist i j).toInt : ℝ) ≤ 127 := by exact_mod_cast h1
  refine ⟨1 - α * ((HeadKernel.dist i j).toInt : ℝ) * (1 / 128), ?_, ?_⟩
  · nlinarith
  · unfold HeadKernel.decay
    rw [ha, HeadLiterals.lit_128, Ideal.div_coe (by norm_num), ← EReal.coe_mul, ← EReal.coe_mul, ← EReal.coe_one, ← EReal.coe_sub]

/-- The reference's decay factor is the kernel's. -/
theorem fade_eq (i j : Fin 128) : HeadReference.fade i j = HeadKernel.decay i j := by
  unfold HeadReference.fade HeadKernel.decay HeadKernel.dist
  rw [(distance_word i j).1]
  rfl

/-- The reference's masked, clipped score: the scaled score clipped at zero on the past, zero elsewhere. -/
theorem clipped_eq (s : EReal) (i j : Fin 128) :
    HeadReference.clipped s i j = if j ≤ i then max (s * ((1 / 8 : ℝ) : EReal)) 0 else 0 := by
  unfold HeadReference.clipped
  rw [triangle_word, HeadLiterals.lit_eighth]
  by_cases h : j ≤ i
  · rw [HeadKernel.select_decide, if_pos h, if_neg one_ne_zero, if_pos h]
  · rw [HeadKernel.select_decide, if_neg h, if_pos rfl, if_neg h]
    exact max_eq_right bot_le

/-- Clipping at zero commutes with a positive finite factor. -/
theorem clip_scale (s : EReal) (c : ℝ) (hc : 0 < c) : max (s * (c : EReal)) 0 = max s 0 * (c : EReal) := by
  have hc' : (0 : EReal) ≤ (c : EReal) := EReal.coe_nonneg.mpr hc.le
  rcases le_total s 0 with h | h
  · rw [max_eq_right h, zero_mul, max_eq_right]
    exact EReal.mul_nonpos_iff.mpr (Or.inr ⟨h, hc'⟩)
  · rw [max_eq_left h, max_eq_left (EReal.mul_nonneg h hc')]

variable (x : Vec Ideal ⟨3, ![512, 128, 64]⟩ .f32) (wk wq : Vec Ideal ⟨2, ![64, 64]⟩ .f32)

/-- THE TWO ROWS AGREE: the reference's decayed scores are the kernel's. -/
theorem row_eq (b : Fin 512) (i : Fin 128) : HeadReference.row x wk wq b i = HeadKernel.kernelRow x wk wq b i := by
  funext j
  unfold HeadReference.row HeadKernel.kernelRow
  rw [clipped_eq, fade_eq, past_word, HeadKernel.select_decide, HeadLiterals.lit_eighth]
  have hs : (∑ h : Fin 64, (∑ c : Fin 64, x (ix3 b i c) * wq (ix2 c h)) * ∑ c : Fin 64, x (ix3 b j c) * wk (ix2 c h) : EReal)
      = ∑ h : Fin 64, HeadKernel.proj512 x wk b j h * HeadKernel.proj512 x wq b i h :=
    Finset.sum_congr rfl fun h _ => mul_comm _ _
  rw [hs]
  by_cases h : j ≤ i
  · rw [if_pos h, if_pos h, clip_scale _ _ (by norm_num), mul_assoc]
    exact congrArg (_ * ·) (mul_comm _ _)
  · rw [if_neg h, if_neg h, zero_mul, mul_zero]

/-- No entry of a row is negative. -/
theorem row_nonneg (b : Fin 512) (i j : Fin 128) : 0 ≤ HeadReference.row x wk wq b i j := by
  unfold HeadReference.row
  rw [clipped_eq, fade_eq]
  obtain ⟨d, hd, e⟩ := decay_pos i j
  rw [e]
  refine EReal.mul_nonneg ?_ (EReal.coe_nonneg.mpr hd.le)
  split
  · exact le_max_right _ _
  · exact le_refl _

/-- An entry outside the past is zero. -/
theorem row_future (b : Fin 512) (i j : Fin 128) (h : ¬ j ≤ i) : HeadReference.row x wk wq b i j = 0 := by
  unfold HeadReference.row
  rw [clipped_eq, if_neg h, zero_mul]

/-- An entry of the past is the scaled score clipped at zero, times the decay. -/
theorem row_past (b : Fin 512) (i j : Fin 128) (h : j ≤ i) : HeadReference.row x wk wq b i j
    = max ((∑ h : Fin 64, (∑ c : Fin 64, x (ix3 b i c) * wq (ix2 c h)) * ∑ c : Fin 64, x (ix3 b j c) * wk (ix2 c h) : EReal)
        * Ideal.ofBits .f32 0x3E000000#32) 0 * HeadReference.fade i j := by
  unfold HeadReference.row
  rw [clipped_eq, if_pos h, HeadLiterals.lit_eighth]

end HeadGrid
-- ==== Proof.Distinct.lean ====
/-
  What the precondition says: the divisor is not zero, and no row holds a positive entry twice.
-/
module

public import proofs.«01_k».proof.Pre_distinct_scores
public import proofs.«01_k».proof.Proof.Gen.Pre_distinct_scores
public import proofs.«01_k».proof.Proof.Grid

@[expose] public section

set_option maxRecDepth 16384

noncomputable section

namespace HeadDistinct

open Idealize.ShloMosaic
open Cert.Pre_distinct_scores Cert.Pre_distinct_scores.Gen

/-- The condition at a position, from the decay table and the clipped scores: not two equal positive products of the past, and the last argument not zero. -/
theorem tie_apply (g : FVec Ideal S_ .f32) (d : FVec Ideal S128x128 .f32) (s : FVec Ideal S512x128x128 .f32)
    (b : Fin 512) (i j k : Fin 128)
    (h : fn_part1 (F := Ideal) g (iotaInDim S128x128 32 0) (iotaInDim S128x128 32 1) d s (ix4 b i j k) = 1#1) :
    (g ix0 ≠ 0) ∧ (j ≤ i → k ≤ i → 0 < s (ix3 b i j) * d (ix2 i j) → s (ix3 b i j) * d (ix2 i j) = s (ix3 b i k) * d (ix2 i k) → j = k) := by
  revert h
  pointwise [fn_part1, fn_part2]
  rw [HeadGrid.past_word, HeadGrid.past_word, HeadGrid.differ_word]
  intro h
  have bits : ∀ p q : Bool, IntOp.andi (BitVec.ofBool p) (BitVec.ofBool q) = BitVec.ofBool (p && q) := by decide
  have nots : ∀ p : Bool, ~~~(BitVec.ofBool p) = BitVec.ofBool (!p) := by decide
  have one : ∀ p : Bool, BitVec.ofBool p = 1#1 → p = true := by decide
  simp only [bits, nots] at h
  have h' := one _ h
  simp only [Bool.and_eq_true, Bool.not_eq_true', Bool.and_eq_false_iff, decide_eq_true_eq, decide_eq_false_iff_not] at h'
  obtain ⟨h1, h2⟩ := h'
  refine ⟨h2, fun hj hk hp he => ?_⟩
  by_contra hne
  rcases h1 with (((h1 | h1) | h1) | h1) | h1
  · exact h1 he
  · exact h1 hp
  · exact h1 hj
  · exact h1 hk
  · exact h1 hne

/-- The decay table of the condition is the reference's. -/
theorem decay_apply (i j : Fin 128) :
    subf (F := Ideal) (φ := .f32) (broadcastInDim S128x128 ![] Facts.bcast_S_S128x128 (constant S_ .f32 0x3F800000#32))
      (Host.divf (mulf (broadcastInDim S128x128 ![] Facts.bcast_S_S128x128 (constant S_ .f32 0x3DCCCCCD#32))
          (sitofp .f32 (absi (subi (iotaInDim S128x128 32 1) (iotaInDim S128x128 32 0)))))
        (broadcastInDim S128x128 ![] Facts.bcast_S_S128x128 (constant S_ .f32 0x43000000#32))) (ix2 i j) = HeadReference.fade i j := by
  pointwise []
  rfl

variable (x : FVec Ideal S512x128x64 .f32) (wk wq wv : FVec Ideal S64x64 .f32) (g : FVec Ideal S_ .f32)

/-- The scores of the condition are the reference's. -/
theorem score_apply (b : Fin 512) (i j : Fin 128) :
    (Host.dotGeneral (F := Ideal) dot_S512x128x64_S512x64x128_S512x128x128_2_1_1_2_0_0 none
      (Host.dotGeneral dot_S512x128x64_S64x64_S512x128x64_2_0_01_1_n_n none x wq : FVec Ideal S512x128x64 .f32)
      (transpose S512x64x128 [0, 2, 1] (Host.dotGeneral dot_S512x128x64_S64x64_S512x128x64_2_0_01_1_n_n none x wk : FVec Ideal S512x128x64 .f32)
        Facts.transposes_S512x128x64_S512x64x128_0_2_1) : FVec Ideal S512x128x128 .f32) (ix3 b i j)
      = ∑ h : Fin 64, (∑ c : Fin 64, x (ix3 b i c) * wq (ix2 c h)) * ∑ c : Fin 64, x (ix3 b j c) * wk (ix2 c h) := by
  pointwise []

/-- The scores scaled and clipped at zero. -/
theorem clip_apply (s : FVec Ideal S512x128x128 .f32) (b : Fin 512) (i j : Fin 128) (t : EReal) (ht : s (ix3 b i j) = t) :
    (maximumf (F := Ideal) (φ := .f32) (mulf s (broadcastInDim S512x128x128 ![] Facts.bcast_S_S512x128x128 (constant S_ .f32 0x3E000000#32)))
      (broadcastInDim S512x128x128 ![] Facts.bcast_S_S512x128x128 (constant S_ .f32 0x00000000#32))) (ix3 b i j)
      = max (t * Ideal.ofBits .f32 0x3E000000#32) 0 := by
  subst ht
  pointwise []

/-- What the condition says: the last argument is not zero, and no row holds a positive entry twice. -/
theorem distinct (hpre : fn (F := Ideal) x wk wq wv g = fun _ => 1#1) :
    g ix0 ≠ 0 ∧ ∀ b i, HeadRow.Clean (HeadReference.row x wk wq b i) := by
  have key : ∀ b i j k, fn (F := Ideal) x wk wq wv g (ix4 b i j k) = 1#1 := fun b i j k => congrFun hpre _
  unfold fn at key
  dsimp only at key
  refine ⟨(tie_apply _ _ _ 0 0 0 0 (key 0 0 0 0)).1, fun b i => ⟨HeadGrid.row_nonneg x wk wq b i, fun j k hj hjk => ?_⟩⟩
  by_cases hi : j ≤ i
  · by_cases hk : k ≤ i
    · have := (tie_apply _ _ _ b i j k (key b i j k)).2 hi hk
      rw [decay_apply, decay_apply, clip_apply _ b i j _ (score_apply x wk wq b i j), clip_apply _ b i k _ (score_apply x wk wq b i k),
        ← HeadGrid.row_past x wk wq b i j hi, ← HeadGrid.row_past x wk wq b i k hk] at this
      exact this hj hjk
    · rw [hjk, HeadGrid.row_future x wk wq b i k hk] at hj
      exact absurd hj (lt_irrefl _)
  · rw [HeadGrid.row_future x wk wq b i j hi] at hj
    exact absurd hj (lt_irrefl _)

end HeadDistinct
-- ==== Proof.Equation.lean ====
/-
  The equation of the two results, and the value claim.
-/
module

public import proofs.«01_k».proof.Defs
public import proofs.«01_k».proof.Proof.Distinct
public import proofs.«01_k».proof.Proof.Gen.KernelIdeal.Value
public import proofs.«01_k».proof.Proof.Gen.ReferenceIdeal.Run

@[expose] public section

set_option maxRecDepth 16384

noncomputable section

namespace HeadEquation

open Idealize.ShloMosaic Idealize.SL.Sem

/-- On a row of nonnegative entries the code of an entry is its wrapped level, and it is zero at a zero entry. -/
theorem code_eq (f : Fin 128 → EReal) (h0 : ∀ j, 0 ≤ f j) (j : Fin 128) :
    HeadReference.code (f j) (HeadReference.scale (HeadRow.top f) (HeadRow.spread f))
        = HeadRow.signedLevel (HeadRow.level (Ideal.ofBits .f32 0x358637BD#32) (f j) (HeadRow.top f))
      ∧ (f j = 0 → HeadRow.signedLevel (HeadRow.level (Ideal.ofBits .f32 0x358637BD#32) (f j) (HeadRow.top f)) = 0) := by
  obtain ⟨ε, hε, e⟩ := HeadLiterals.lit_eps
  obtain ⟨⟨n, hn, hl, hz⟩, hr⟩ := HeadRow.level_nat hε (h0 j) (HeadRow.le_top' f j)
  unfold HeadReference.code HeadReference.scale
  rw [e, max_eq_left (HeadRow.spread_le f h0), hr, hl]
  refine ⟨HeadRow.wrap_level hn, fun hf => ?_⟩
  rw [hz hf]
  have h : ¬ ((255 / 2 : ℝ) : EReal) < (((0 : Nat) : ℝ) : EReal) := by
    rw [EReal.coe_lt_coe_iff]
    norm_num
  rw [HeadRow.signedLevel, if_neg h]
  simp

/-- THE WEIGHTS AGREE on a row with no positive entry twice: storing the codes of the eight largest entries is
    storing the wrapped level of every entry not below the eighth largest value. -/
theorem weight_eq (f : Fin 128 → EReal) (hf : HeadRow.Clean f) (j : Fin 128) :
    (if ∃ r : Fin 8, HeadReference.order f (HeadReference.slot r) = j
      then HeadReference.code (f j) (HeadReference.scale (HeadRow.top f) (HeadRow.spread f)) else 0)
      = HeadKernel.kernelWeight f j := by
  obtain ⟨hc, hz⟩ := code_eq f hf.nonneg j
  unfold HeadKernel.kernelWeight
  rw [hc]
  rcases eq_or_lt_of_le (hf.nonneg j) with h | h
  · rw [hz h.symm, ite_self, ite_self]
  · have hiff := HeadRow.listed_iff hf (HeadReference.order f) (HeadReference.order_injective f) (HeadReference.order_sorted f) j h
    by_cases hl : ∃ r : Fin 8, HeadReference.order f (HeadReference.slot r) = j
    · rw [if_pos hl, if_pos (hiff.mp hl)]
    · rw [if_neg hl, if_neg (fun hcut => hl (hiff.mpr hcut))]

/-- Dividing the weight or multiplying the value by the reciprocal is the same. -/
theorem term_eq (w v g : EReal) (hg : g ≠ 0) : Ideal.div w g * v = w * (v * Ideal.div 1 g) := by
  rw [← Ideal.mul_one_div (x := w) hg, mul_assoc, mul_comm (Ideal.div 1 g) v]

/-- The kernel's sum over the key positions is the reference's, on a row with no positive entry twice and for a divisor that is not zero. -/
theorem sum_eq (x : Vec Ideal ⟨3, ![512, 128, 64]⟩ .f32) (wk wq wv : Vec Ideal ⟨2, ![64, 64]⟩ .f32) (g g' : EReal) (hg : g ≠ 0) (hgg : g' = g)
    (b : Fin 512) (i : Fin 128) (h : Fin 64) (hf : HeadRow.Clean (HeadReference.row x wk wq b i)) :
    (∑ j : Fin 128, HeadKernel.kernelWeight (HeadKernel.kernelRow x wk wq b i) j * (HeadKernel.proj512 x wv b j h * Ideal.div 1 g') : EReal)
      = ∑ j : Fin 128, Ideal.div (if ∃ r : Fin 8, HeadReference.order (HeadReference.row x wk wq b i) (HeadReference.slot r) = j
          then HeadReference.code (HeadReference.row x wk wq b i j)
            (HeadReference.scale (HeadRow.top (HeadReference.row x wk wq b i)) (HeadRow.spread (HeadReference.row x wk wq b i))) else 0) g
        * ∑ c : Fin 64, x (ix3 b j c) * wv (ix2 c h) := by
  subst hgg
  refine Finset.sum_congr rfl fun j _ => ?_
  rw [← HeadGrid.row_eq, weight_eq _ hf j, term_eq _ _ _ hg]
  rfl

open Cert.KernelIdeal in
/-- THE RESULTS AGREE: the kernel's result array is the reference's function of the same arguments. -/
theorem result_eq (m : (ℓ : Loc nD τ sig) → Buf (Elt Ideal) ℓ) (c : Dev nD)
    (hpre : Cert.Pre_distinct_scores.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    ((Cert.KernelIdeal.Gen.dats m 0 c).arrAt 6 Cert.KernelIdeal.cfg0.N : Vec Ideal S512x128x64 .f32)
      = Cert.ReferenceIdeal.Read.val_main_v90 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  obtain ⟨hg, hclean⟩ := HeadDistinct.distinct _ _ _ _ _ hpre
  have e0 : (fun a => a.elim0 : S_.Idx) = ix0 := funext fun a => a.elim0
  funext k
  obtain ⟨b, i, h, rfl⟩ : ∃ (b : Fin 512) (i : Fin 128) (h : Fin 64), k = ix3 b i h := ⟨k 0, k 1, k 2, by
    funext a
    match a with
    | ⟨0, _⟩ => rfl
    | ⟨1, _⟩ => rfl
    | ⟨2, _⟩ => rfl⟩
  refine (HeadKernel.result_apply m c b i h).trans (Eq.trans ?_ (HeadReference.result_apply _ _ _ _ _ b i h).symm)
  exact sum_eq _ _ _ _ _ _ hg (congrArg (m ((c.tc : Thread nD τ).loc main_arg4)) e0) b i h (hclean b i)

/-- THE VALUE CLAIM: over the extended reals the kernel and the reference end with the same result. -/
theorem algebraic : Cert.algebraic_KernelIdeal_ReferenceIdeal_pre_distinct_scores := by
  intro m ρ m' ρ' hpre hagree
  refine ⟨fun c => (Cert.KernelIdeal.Gen.dats m 0 c).arrAt 6 Cert.KernelIdeal.cfg0.N, Cert.KernelIdeal.Value.run_blocks m ρ, ?_⟩
  refine (θ_run Cert.ReferenceIdeal.defs _ _).mono (fun _ h c => ⟨(h c).1.trans ?_, (h c).2⟩) (Cert.ReferenceIdeal.Value.run (F := Ideal) m' ρ')
  obtain ⟨a0, a1, a2, a3, a4⟩ := hagree c
  refine (Cert.ReferenceIdeal.Read.val_main_v90_eq (F := Ideal) m' c).trans ?_
  rw [a0, a1, a2, a3, a4]
  exact (result_eq m c (hpre c)).symm

end HeadEquation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_distinct_scores
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem

/-- The reference leaves its arguments as they were, and it has no semaphore to move. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.Pre_distinct_scores.Gen.facts,
    fun m ρ _ => Cert.Kernel.Gen.frame m ρ,
    fun m ρ _ => Cert.KernelIdeal.Gen.frame m ρ,
    fun m ρ _ => Cert.KernelIdeal.Gen.frame m ρ,
    fun m ρ _ => frame_reference m ρ,
    fun m ρ _ => frame_reference m ρ,
    trivial,
    HeadEquation.algebraic⟩

end Cert.Proof

end
